-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_on_determined_pre_finite [hKernelIdeal : Cert.KernelIdeal.Facts] [hReferenceIdeal : Cert.ReferenceIdeal.Facts] [hPre_finite : Cert.Pre_finite.Facts] [hOn_determined : Cert.On_determined.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨1, ![2048]⟩ : Shape).Idx, (Cert.On_determined.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.KernelIdeal.nD Cert.KernelIdeal.τ).loc Cert.KernelIdeal.main_v0_0) i = v0 c i)
          ∧ (∀ i : (⟨1, ![8]⟩ : Shape).Idx, (Cert.On_determined.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 i = 1#1 → r.2.mem ((c.tc : Thread Cert.KernelIdeal.nD Cert.KernelIdeal.τ).loc Cert.KernelIdeal.main_v0_1) i = v1 c i)
          ∧ (∀ i : (⟨1, ![2048]⟩ : Shape).Idx, (Cert.On_determined.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2 i = 1#1 → r.2.mem ((c.tc : Thread Cert.KernelIdeal.nD Cert.KernelIdeal.τ).loc Cert.KernelIdeal.main_v0_2) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨1, ![2048]⟩ : Shape).Idx, (Cert.On_determined.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.ReferenceIdeal.nD Cert.ReferenceIdeal.τ).loc Cert.ReferenceIdeal.main_v18) i = v0 c i)
          ∧ (∀ i : (⟨1, ![8]⟩ : Shape).Idx, (Cert.On_determined.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 i = 1#1 → r.2.mem ((c.tc : Thread Cert.ReferenceIdeal.nD Cert.ReferenceIdeal.τ).loc Cert.ReferenceIdeal.main_v20) i = v1 c i)
          ∧ (∀ i : (⟨1, ![2048]⟩ : Shape).Idx, (Cert.On_determined.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2 i = 1#1 → r.2.mem ((c.tc : Thread Cert.ReferenceIdeal.nD Cert.ReferenceIdeal.τ).loc Cert.ReferenceIdeal.main_v21) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts) (hOn_determined : Cert.On_determined.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_on_determined_pre_finite (hKernelIdeal := hKernelIdeal) (hReferenceIdeal := hReferenceIdeal) (hPre_finite := hPre_finite) (hOn_determined := hOn_determined)
-- ==== On_determined.lean ====
abbrev S2048x64 : Shape := ⟨2, ![2048, 64]⟩
abbrev S65536x64 : Shape := ⟨2, ![65536, 64]⟩
abbrev S_ : Shape := ⟨0, ![]⟩
abbrev S2048 : Shape := ⟨1, ![2048]⟩
abbrev S2048x1 : Shape := ⟨2, ![2048, 1]⟩
abbrev S65536 : Shape := ⟨1, ![65536]⟩
abbrev S1x65536 : Shape := ⟨2, ![1, 65536]⟩
abbrev S64x65536 : Shape := ⟨2, ![64, 65536]⟩
abbrev S2048x65536 : Shape := ⟨2, ![2048, 65536]⟩
abbrev S8 : Shape := ⟨1, ![8]⟩

class Facts : Prop where
  reducesTo_S2048x64_S2048_d1 : S2048x64.ReducesTo [1] S2048
  h_S_ : 0 < S_.numel
  bcast_S2048_S2048x1_0 : S2048.BroadcastsInDim S2048x1 (![0] : Fin 1 → Fin S2048x1.rank)
  reducesTo_S65536x64_S65536_d1 : S65536x64.ReducesTo [1] S65536
  bcast_S65536_S1x65536_1 : S65536.BroadcastsInDim S1x65536 (![1] : Fin 1 → Fin S1x65536.rank)
  transposes_S65536x64_S64x65536_1_0 : S65536x64.Transposes [1, 0] S64x65536
  bcast_S_S2048x65536 : S_.BroadcastsInDim S2048x65536 (![] : Fin 0 → Fin S2048x65536.rank)
  bcast_S2048x1_S2048x65536_0_1 : S2048x1.BroadcastsInDim S2048x65536 (![0, 1] : Fin 2 → Fin S2048x65536.rank)
  bcast_S1x65536_S2048x65536_0_1 : S1x65536.BroadcastsInDim S2048x65536 (![0, 1] : Fin 2 → Fin S2048x65536.rank)
  reducesTo_S2048x65536_S2048_d1 : S2048x65536.ReducesTo [1] S2048
  bcast_S_S2048 : S_.BroadcastsInDim S2048 (![] : Fin 0 → Fin S2048.rank)
  bcast_S_S8 : S_.BroadcastsInDim S8 (![] : Fin 0 → Fin S8.rank)
  dot_S2048x64_S64x65536_S2048x65536_1_0_0_1_n_n_wf : DotDims.WF S2048x64 S64x65536 S2048x65536 [1] [0] [0] [1] [] []

variable [Facts]

def dot_S2048x64_S64x65536_S2048x65536_1_0_0_1_n_n : DotDims S2048x64 S64x65536 S2048x65536 where
  lhsContracting := [1]
  rhsContracting := [0]
  lhsNonContracting := [0]
  rhsNonContracting := [1]
  lhsBatch := []
  rhsBatch := []
  wf := dot_S2048x64_S64x65536_S2048x65536_1_0_0_1_n_n_wf
def fn_part1 {F : FTy → Type} [FloatOps F] (main_v13 : FVec F S2048x65536 .f32) (main_v17 : IVec S2048x65536 1) (main_v18 : FVec F S2048x65536 .f32) : IVec S2048 1 × IVec S8 1 × IVec S2048 1 :=
  let main_v19 : IVec S2048x65536 1 := cmpf .oeq main_v13 main_v18
  let main_v20 : IVec S2048x65536 1 := ori main_v17 main_v19
  let main_c : IVec S_ 1 := constantI S_ 1 1#1
  let main_v21 : IVec S2048 1 := (fun x v => Host.reduce IntOp.andi x v reducesTo_S2048x65536_S2048_d1 h_S_) main_v20 main_c
  let main_c_4 : IVec S_ 1 := constantI S_ 1 1#1
  let main_v22 : IVec S2048 1 := broadcastInDim S2048 ![] bcast_S_S2048 main_c_4
  let main_c_5 : IVec S_ 1 := constantI S_ 1 1#1
  let main_v23 : IVec S8 1 := broadcastInDim S8 ![] bcast_S_S8 main_c_5
  (main_v22, main_v23, main_v21)

def fn {F : FTy → Type} [FloatOps F] (main_arg0 : FVec F S2048x64 .f32) (main_arg1 : FVec F S65536x64 .f32) : IVec S2048 1 × IVec S8 1 × IVec S2048 1 :=
  let main_v0 : FVec F S2048x64 .f32 := mulf main_arg0 main_arg0
  let main_cst : FVec F S_ .f32 := constant S_ .f32 0x00000000#32
  let main_v1 : FVec F S2048 .f32 := (fun x v => Host.reduceAdd x v reducesTo_S2048x64_S2048_d1 h_S_) main_v0 main_cst
  let main_v2 : FVec F S2048x1 .f32 := broadcastInDim S2048x1 ![0] bcast_S2048_S2048x1_0 main_v1
  let main_v3 : FVec F S65536x64 .f32 := mulf main_arg1 main_arg1
  let main_cst_0 : FVec F S_ .f32 := constant S_ .f32 0x00000000#32
  let main_v4 : FVec F S65536 .f32 := (fun x v => Host.reduceAdd x v reducesTo_S65536x64_S65536_d1 h_S_) main_v3 main_cst_0
  let main_v5 : FVec F S1x65536 .f32 := broadcastInDim S1x65536 ![1] bcast_S65536_S1x65536_1 main_v4
  let main_v6 : FVec F S64x65536 .f32 := (transpose S64x65536 [1, 0] · transposes_S65536x64_S64x65536_1_0) main_arg1
  let main_v7 : FVec F S2048x65536 .f32 := (fun l r => Host.dotGeneral dot_S2048x64_S64x65536_S2048x65536_1_0_0_1_n_n none l r) main_arg0 main_v6
  let main_cst_1 : FVec F S_ .f32 := constant S_ .f32 0x40000000#32
  let main_v8 : FVec F S2048x65536 .f32 := broadcastInDim S2048x65536 ![] bcast_S_S2048x65536 main_cst_1
  let main_v9 : FVec F S2048x65536 .f32 := mulf main_v8 main_v7
  let main_v10 : FVec F S2048x65536 .f32 := broadcastInDim S2048x65536 ![0, 1] bcast_S2048x1_S2048x65536_0_1 main_v2
  let main_v11 : FVec F S2048x65536 .f32 := subf main_v10 main_v9
  let main_v12 : FVec F S2048x65536 .f32 := broadcastInDim S2048x65536 ![0, 1] bcast_S1x65536_S2048x65536_0_1 main_v5
  let main_v13 : FVec F S2048x65536 .f32 := addf main_v11 main_v12
  let main_cst_2 : FVec F S_ .f32 := constant S_ .f32 0x7F800000#32
  let main_v14 : FVec F S2048 .f32 := (fun x v => Host.reduce FloatOps.minimumf x v reducesTo_S2048x65536_S2048_d1 h_S_) main_v13 main_cst_2
  let main_v15 : FVec F S2048x1 .f32 := broadcastInDim S2048x1 ![0] bcast_S2048_S2048x1_0 main_v14
  let main_cst_3 : FVec F S_ .f32 := constant S_ .f32 0x2B8CBCCC#32
  let main_v16 : FVec F S2048x65536 .f32 := broadcastInDim S2048x65536 ![] bcast_S_S2048x65536 main_cst_3
  let main_v17 : IVec S2048x65536 1 := cmpf .ogt main_v13 main_v16
  let main_v18 : FVec F S2048x65536 .f32 := broadcastInDim S2048x65536 ![0, 1] bcast_S2048x1_S2048x65536_0_1 main_v15
  fn_part1 (F := F) main_v13 main_v17 main_v18
-- ==== Pre_finite.lean ====
abbrev S2048x64 : Shape := ⟨2, ![2048, 64]⟩
abbrev S65536x64 : Shape := ⟨2, ![65536, 64]⟩
abbrev S_ : Shape := ⟨0, ![]⟩

class Facts : Prop where
  bcast_S_S2048x64 : S_.BroadcastsInDim S2048x64 (![] : Fin 0 → Fin S2048x64.rank)
  reducesTo_S2048x64_S_d0_1 : S2048x64.ReducesTo [0, 1] S_
  h_S_ : 0 < S_.numel
  bcast_S_S65536x64 : S_.BroadcastsInDim S65536x64 (![] : Fin 0 → Fin S65536x64.rank)
  reducesTo_S65536x64_S_d0_1 : S65536x64.ReducesTo [0, 1] S_

variable [Facts]

def fn {F : FTy → Type} [FloatOps F] (main_arg0 : FVec F S2048x64 .f32) (main_arg1 : FVec F S65536x64 .f32) : IVec S_ 1 :=
  let main_v0 : FVec F S2048x64 .f32 := Host.absf main_arg0
  let main_cst : FVec F S_ .f32 := constant S_ .f32 0x7F800000#32
  let main_v1 : FVec F S2048x64 .f32 := broadcastInDim S2048x64 ![] bcast_S_S2048x64 main_cst
  let main_v2 : IVec S2048x64 1 := cmpf .olt main_v0 main_v1
  let main_c : IVec S_ 1 := constantI S_ 1 1#1
  let main_v3 : IVec S_ 1 := (fun x v => Host.reduce IntOp.andi x v reducesTo_S2048x64_S_d0_1 h_S_) main_v2 main_c
  let main_v4 : FVec F S65536x64 .f32 := Host.absf main_arg1
  let main_cst_0 : FVec F S_ .f32 := constant S_ .f32 0x7F800000#32
  let main_v5 : FVec F S65536x64 .f32 := broadcastInDim S65536x64 ![] bcast_S_S65536x64 main_cst_0
  let main_v6 : IVec S65536x64 1 := cmpf .olt main_v4 main_v5
  let main_c_1 : IVec S_ 1 := constantI S_ 1 1#1
  let main_v7 : IVec S_ 1 := (fun x v => Host.reduce IntOp.andi x v reducesTo_S65536x64_S_d0_1 h_S_) main_v6 main_c_1
  let main_v8 : IVec S_ 1 := andi main_v3 main_v7
  main_v8
-- ==== Kernel.lean ====
abbrev S2048x64 : Shape := ⟨2, ![2048, 64]⟩
abbrev S65536x64 : Shape := ⟨2, ![65536, 64]⟩
abbrev S2048 : Shape := ⟨1, ![2048]⟩
abbrev S8 : Shape := ⟨1, ![8]⟩
abbrev S4096x64 : Shape := ⟨2, ![4096, 64]⟩
abbrev S8x2048 : Shape := ⟨2, ![8, 2048]⟩
abbrev S2048x1 : Shape := ⟨2, ![2048, 1]⟩
abbrev S1x2048 : Shape := ⟨2, ![1, 2048]⟩
abbrev S4096x2048 : Shape := ⟨2, ![4096, 2048]⟩
abbrev S4096 : Shape := ⟨1, ![4096]⟩
abbrev S4096x1 : Shape := ⟨2, ![4096, 1]⟩
abbrev S8x1 : Shape := ⟨2, ![8, 1]⟩
abbrev S8x256 : Shape := ⟨2, ![8, 256]⟩

abbrev nBuf : Space → Nat
  | .hbm => 5
  | .vmem => 9
  | .smem => 0
  | _ => 0

abbrev bufTy : (tb : Table) → Fin (tcTables nBuf tb) → BufTy
  | .hbm, ⟨0, _⟩ => ⟨S2048x64, .f32⟩
  | .hbm, ⟨1, _⟩ => ⟨S65536x64, .f32⟩
  | .hbm, ⟨2, _⟩ => ⟨S2048, .f32⟩
  | .hbm, ⟨3, _⟩ => ⟨S8, .f32⟩
  | .hbm, ⟨4, _⟩ => ⟨S2048, .i32⟩
  | .local _ .vmem, ⟨0, _⟩ => ⟨S2048x64, .f32⟩
  | .local _ .vmem, ⟨1, _⟩ => ⟨S4096x64, .f32⟩
  | .local _ .vmem, ⟨2, _⟩ => ⟨S4096x64, .f32⟩
  | .local _ .vmem, ⟨3, _⟩ => ⟨S2048, .f32⟩
  | .local _ .vmem, ⟨4, _⟩ => ⟨S8, .f32⟩
  | .local _ .vmem, ⟨5, _⟩ => ⟨S2048, .i32⟩
  | .local _ .vmem, ⟨6, _⟩ => ⟨S8x2048, .f32⟩
  | .local _ .vmem, ⟨7, _⟩ => ⟨S8x2048, .f32⟩
  | .local _ .vmem, ⟨8, _⟩ => ⟨S8x2048, .f32⟩
  | _, _ => ⟨S2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v5654 : BitVec 1 := Scalar.cmpi .eq arg0 c15_i32
  let v5655 : BitVec 32 := Scalar.extui v5654
  let c0_i32_528 : BitVec 32 := 0#32
  let v5656 : BitVec 1 := Scalar.cmpi .ne v5655 c0_i32_528
  v5656

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .vmem S2048x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S2048x64 : Shape := ⟨2, ![2048, 64]⟩
abbrev S65536x64 : Shape := ⟨2, ![65536, 64]⟩
abbrev S_ : Shape := ⟨0, ![]⟩
abbrev S2048 : Shape := ⟨1, ![2048]⟩
abbrev S2048x1 : Shape := ⟨2, ![2048, 1]⟩
abbrev S65536 : Shape := ⟨1, ![65536]⟩
abbrev S1x65536 : Shape := ⟨2, ![1, 65536]⟩
abbrev S64x65536 : Shape := ⟨2, ![64, 65536]⟩
abbrev S2048x65536 : Shape := ⟨2, ![2048, 65536]⟩
abbrev S8x256 : Shape := ⟨2, ![8, 256]⟩
abbrev S8 : Shape := ⟨1, ![8]⟩

abbrev nBuf : Space → Nat
  | .hbm => 33
  | .vmem => 0
  | .smem => 0
  | _ => 0

abbrev bufTy : (tb : Table) → Fin (tcTables nBuf tb) → BufTy
  | .hbm, ⟨0, _⟩ => ⟨S2048x64, .f32⟩
  | .hbm, ⟨1, _⟩ => ⟨S65536x64, .f32⟩
  | .hbm, ⟨2, _⟩ => ⟨S2048x64, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S65536x64, .f32⟩
  | .hbm, ⟨7, _⟩ => ⟨S_, .f32⟩
  | .hbm, ⟨8, _⟩ => ⟨S65536, .f32⟩
  | .hbm, ⟨9, _⟩ => ⟨S1x65536, .f32⟩
  | .hbm, ⟨10, _⟩ => ⟨S64x65536, .f32⟩
  | .hbm, ⟨11, _⟩ => ⟨S2048x65536, .f32⟩
  | .hbm, ⟨12, _⟩ => ⟨S_, .f32⟩
  | .hbm, ⟨13, _⟩ => ⟨S2048x65536, .f32⟩
  | .hbm, ⟨14, _⟩ => ⟨S2048x65536, .f32⟩
  | .hbm, ⟨15, _⟩ => ⟨S2048x65536, .f32⟩
  | .hbm, ⟨16, _⟩ => ⟨S2048x65536, .f32⟩
  | .hbm, ⟨17, _⟩ => ⟨S2048x65536, .f32⟩
  | .hbm, ⟨18, _⟩ => ⟨S2048x65536, .f32⟩
  | .hbm, ⟨19, _⟩ => ⟨S_, .f32⟩
  | .hbm, ⟨20, _⟩ => ⟨S_, .f32⟩
  | .hbm, ⟨21, _⟩ => ⟨S2048x65536, .f32⟩
  | .hbm, ⟨22, _⟩ => ⟨S2048x65536, .f32⟩
  | .hbm, ⟨23, _⟩ => ⟨S2048x65536, .f32⟩
  | .hbm, ⟨24, _⟩ => ⟨S2048x65536, .f32⟩
  | .hbm, ⟨25, _⟩ => ⟨S2048x1, .f32⟩
  | .hbm, ⟨26, _⟩ => ⟨S2048x1, .i32⟩
  | .hbm, ⟨27, _⟩ => ⟨S2048, .f32⟩
  | .hbm, ⟨28, _⟩ => ⟨S2048, .f32⟩
  | .hbm, ⟨29, _⟩ => ⟨S8x256, .f32⟩
  | .hbm, ⟨30, _⟩ => ⟨S_, .f32⟩
  | .hbm, ⟨31, _⟩ => ⟨S8, .f32⟩
  | .hbm, ⟨32, _⟩ => ⟨S2048, .i32⟩
  | _, _ => ⟨S2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_values : Ref sig .tc := ⟨.hbm, 25, rfl⟩
abbrev main_indices : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]
-- ==== Proof.Strips.lean ====
/- One grid point's block of keys, strip by strip.

   The kernel reads 4096 keys at a grid point and goes through them in 512 strips of 8 keys. For every strip it
   computes the squared distances of the strip's 8 keys to all 2048 queries (one key per sublane) and keeps, per
   sublane and query, the least distance met and the number of the strip's first key. This file states that walk once,
   for a strip of any number, and that the stores of a grid point hold the walk after 512 strips. -/
module

public import proofs.«01_k».proof.Proof.Gen.KernelIdeal.Frame
public import Idealize.ShloMosaic.Lib.Pipeline.Value
public import Idealize.ShloMosaic.Lib.Tactic

@[expose] public section

set_option maxRecDepth 16384

noncomputable section

namespace Cert.KernelIdeal.Strips

open Cert.KernelIdeal Cert.KernelIdeal.Gen Idealize.ShloMosaic Idealize.ShloMosaic.TcCoe

variable {F : FTy → Type} [FloatOps F]

/-- Rows `8k … 8k + 7` (`k = n mod 512`) are rows of a 4096 × 2048 array. -/
theorem slices_rows (n : ℕ) : S4096x2048.Slices ![8 * (n % 512), 0] S8x2048 :=
  ⟨rfl, fun a => by
    have := Nat.mod_lt n (show 0 < 512 by decide)
    match a with
    | ⟨0, _⟩ => show 8 * (n % 512) + 8 ≤ 4096; omega
    | ⟨1, _⟩ => show 0 + 2048 ≤ 2048; omega⟩

/-- Rows `8k … 8k + 7` (`k = n mod 512`) are rows of a 4096 × 1 array. -/
theorem slices_column (n : ℕ) : S4096x1.Slices ![8 * (n % 512), 0] S8x1 :=
  ⟨rfl, fun a => by
    have := Nat.mod_lt n (show 0 < 512 by decide)
    match a with
    | ⟨0, _⟩ => show 8 * (n % 512) + 8 ≤ 4096; omega
    | ⟨1, _⟩ => show 0 + 1 ≤ 1; omega⟩

/-- The squared distances of strip `n`: the queries' squared norms `qn`, plus the strip's rows of the products `p`,
    plus the squared norms of the strip's keys from the column `kn`. -/
def dist (p : FVec F S4096x2048 .f32) (qn : FVec F S8x2048 .f32) (kn : FVec F S4096x1 .f32) (n : ℕ) :
    FVec F S8x2048 .f32 :=
  addf (addf qn (extractStridedSlice S8x2048 ![8 * (n % 512), 0] p (slices_rows n)))
    (broadcastTo S8x2048 (shapeCast S8x1 (extractStridedSlice S8x1 ![8 * (n % 512), 0] kn (slices_column n))
      shapeCasts_S8x1_S8x1) broadcasts_S8x1_S8x2048)

/-- The 32-bit float pattern of `8n`, for `n < 2 ^ 23`: exponent field `130 + log₂ n`, the digits of `n` below its
    leading one; the zero pattern at `n = 0`. -/
def word (n : ℕ) : ℕ := (1 - (1 - n)) * ((130 + Nat.log2 n) * 2 ^ 23 + n * 2 ^ (23 - Nat.log2 n) - 2 ^ 23)

/-- The number of strip `n`'s first key: the block's first key plus `8n`. -/
def start (base : F .f32) (n : ℕ) : F .f32 := Scalar.addf base (Scalar.ofBits .f32 (BitVec.ofNat 32 (word n)))

/-- The least distance per sublane and query after `n` strips, from the contents `m` the walk begins with. -/
def least (p : FVec F S4096x2048 .f32) (qn : FVec F S8x2048 .f32) (kn : FVec F S4096x1 .f32) (m : FVec F S8x2048 .f32) :
    ℕ → FVec F S8x2048 .f32
  | 0 => m
  | n + 1 => select (cmpf .olt (dist p qn kn n) (least p qn kn m n)) (dist p qn kn n) (least p qn kn m n)

/-- The kept strip number per sublane and query after `n` strips, from the contents `x` the walk begins with: replaced
    exactly where the strip's distance is below the least one so far. -/
def place (p : FVec F S4096x2048 .f32) (qn : FVec F S8x2048 .f32) (kn : FVec F S4096x1 .f32) (base : F .f32)
    (m x : FVec F S8x2048 .f32) : ℕ → FVec F S8x2048 .f32
  | 0 => x
  | n + 1 => select (cmpf .olt (dist p qn kn n) (least p qn kn m n)) (broadcast S8x2048 (start base n))
      (place p qn kn base m x n)

end Cert.KernelIdeal.Strips

end
-- ==== Proof.Point.lean ====
/- What one grid point leaves in the buffers, as the walk over its block's strips (`Strips.least`, `Strips.place`).

   The first point also fills the three carried buffers before the walk: the queries' squared norms, an infinite least
   distance, strip number zero. The last point also writes the three results from the walk's end. -/
module

public import proofs.«01_k».proof.Proof.Strips
public import Idealize.ShloMosaic.Lib.Pipeline.Value
public import Idealize.ShloMosaic.Lib.Tactic

@[expose] public section

set_option maxRecDepth 16384

noncomputable section

namespace Cert.KernelIdeal.Point

open Cert.KernelIdeal Cert.KernelIdeal.Gen Cert.KernelIdeal.Strips Idealize.ShloMosaic Idealize.ShloMosaic.TcCoe

variable {F : FTy → Type} [FloatOps F]

/-- A load of a whole buffer holding `x`. -/
def load {S : Shape} {e : EltTy} {off : Fin S.rank → ℕ} (a : Memref sig .tc .vmem S e) (ha : a.IsWhole)
    (inb : ∀ k, off k + S.size k ≤ S.size k) (x : Vec F S e) : Vec F S e :=
  View.readAt (Elt F) a.view (Rect.unit (s := S) off S.size inb).toLoadRect (ha.unread x)

/-- It reads `x`. -/
theorem load_eq {S : Shape} {e : EltTy} {off : Fin S.rank → ℕ} (hz : off = fun _ => 0) (a : Memref sig .tc .vmem S e)
    (ha : a.IsWhole) (inb : ∀ k, off k + S.size k ≤ S.size k) (x : Vec F S e) : load a ha inb x = x := by
  unfold load
  rw [View.readAt_eq_ld, ha.read_unread, View.ld_unit_zero hz]

/-- A load of a whole buffer just after a store of `w` over all of it. -/
def reload {S : Shape} {e : EltTy} {off : Fin S.rank → ℕ} (a : Memref sig .tc .vmem S e)
    (inb : ∀ k, off k + S.size k ≤ S.size k) (w : Vec F S e) : Vec F S e :=
  a.view.readCov [(⟨Rect.unit off S.size inb, w⟩ : View.Piece (Elt F) S e)] (Rect.unit off S.size inb).toLoadRect

/-- It reads `w`. -/
theorem reload_eq {S : Shape} {e : EltTy} {off : Fin S.rank → ℕ} (hz : off = fun _ => 0) (a : Memref sig .tc .vmem S e)
    (inb : ∀ k, off k + S.size k ≤ S.size k) (w : Vec F S e) : reload a inb w = w :=
  View.readCov_unit_zero _ hz inb w

theorem origin1 : (![0] : Fin 1 → ℕ) = fun _ => 0 := by funext a; fin_cases a; rfl
theorem origin2 : (![0, 0] : Fin 2 → ℕ) = fun _ => 0 := by funext a; fin_cases a <;> rfl

/-- The least distances after the block `k` of keys, from the contents `m`; `qn` the queries' squared norms. -/
def leastAfter (q : Vec F S2048x64 .f32) (k : Vec F S4096x64 .f32) (qn m : Vec F S8x2048 .f32) : Vec F S8x2048 .f32 :=
  least (k0_pay4 q k) qn (k0_pay5 k) m 512

/-- The kept strip numbers after the block `k` of keys at grid point `i`, from the contents `m` and `x`. -/
def placeAfter (i : grid0.Coords) (q : Vec F S2048x64 .f32) (k : Vec F S4096x64 .f32) (qn m x : Vec F S8x2048 .f32) :
    Vec F S8x2048 .f32 :=
  place (k0_pay4 q k) qn (k0_pay5 k) (k0_pay6 i) m x 512

section
variable (c : Dev nD) (i : grid0.Coords) (a1 : Memref sig .tc .vmem S2048x64 .f32) (h1 : a1.IsWhole)
  (a2 : Memref sig .tc .vmem S4096x64 .f32) (h2 : a2.IsWhole) (a3 : Memref sig .tc .vmem S2048 .f32) (h3 : a3.IsWhole)
  (a4 : Memref sig .tc .vmem S8 .f32) (h4 : a4.IsWhole) (a5 : Memref sig .tc .vmem S2048 .i32) (h5 : a5.IsWhole)
  (a6 : Memref sig .tc .vmem S8x2048 .f32) (h6 : a6.IsWhole) (a7 : Memref sig .tc .vmem S8x2048 .f32) (h7 : a7.IsWhole)
  (a8 : Memref sig .tc .vmem S8x2048 .f32) (h8 : a8.IsWhole)
  (q : Vec F S2048x64 .f32) (k : Vec F S4096x64 .f32) (qn m x : Vec F S8x2048 .f32)

/-- The first point leaves the queries' squared norms in the first carried buffer. -/
theorem first_norms (hc0 : cond0_0 i) (hc1 : ¬cond0_1 i) :
    sout0_A_0 c i a1 h1 a2 h2 a3 h3 a4 h4 a5 h5 a6 h6 a7 h7 a8 h8 hc0 hc1 q k = k0_pay1 q := by
  unfold sout0_A_0
  rw [View.read_writes_eq_canon _ _ _ (scover0_A_0 c i a1 h1 a2 h2 a3 h3 a4 h4 a5 h5 a6 h6 a7 h7 a8 h8 hc0 hc1 q k)]
  unfold kernelRun0_A
  dsimp only
  trans View.canon [(⟨Rect.unit ![0, 0] S8x2048.size inb_S8x2048_S8x2048_0_0,
      k0_pay1 (load a1 h1 inb_S2048x64_S2048x64_0_0 q)⟩ : View.Piece (Elt F) S8x2048 .f32)]
  · sl_kernel_rfl
  · rw [View.canon_unit_zero origin2, load_eq origin2]

/-- The first point leaves the least distances of its block, walked from infinity. -/
theorem first_least (hc0 : cond0_0 i) (hc1 : ¬cond0_1 i) :
    sout0_A_1 c i a1 h1 a2 h2 a3 h3 a4 h4 a5 h5 a6 h6 a7 h7 a8 h8 hc0 hc1 q k
      = leastAfter q k (k0_pay1 q) (k0_pay2 (F := F)) := by
  unfold sout0_A_1
  rw [View.read_writes_eq_canon _ _ _ (scover0_A_1 c i a1 h1 a2 h2 a3 h3 a4 h4 a5 h5 a6 h6 a7 h7 a8 h8 hc0 hc1 q k)]
  unfold kernelRun0_A
  dsimp only
  rw [View.canon_cons_unit_zero (S := S8x2048) origin2]
  trans k0_pay1850 (leastAfter (load a1 h1 inb_S2048x64_S2048x64_0_0 q) (load a2 h2 inb_S4096x64_S4096x64_0_0 k)
    (reload a6 inb_S8x2048_S8x2048_0_0 (k0_pay1 (load a1 h1 inb_S2048x64_S2048x64_0_0 q)))
    (reload a7 inb_S8x2048_S8x2048_0_0 (k0_pay2 (F := F))))
  · sl_kernel_rfl
  · rw [load_eq origin2, load_eq origin2, reload_eq origin2, reload_eq origin2]
    exact shapeCast_self _ _

/-- The first point leaves the kept strip numbers of its block, walked from zero. -/
theorem first_place (hc0 : cond0_0 i) (hc1 : ¬cond0_1 i) :
    sout0_A_2 c i a1 h1 a2 h2 a3 h3 a4 h4 a5 h5 a6 h6 a7 h7 a8 h8 hc0 hc1 q k
      = placeAfter i q k (k0_pay1 q) (k0_pay2 (F := F)) (k0_pay3 (F := F)) := by
  unfold sout0_A_2
  rw [View.read_writes_eq_canon _ _ _ (scover0_A_2 c i a1 h1 a2 h2 a3 h3 a4 h4 a5 h5 a6 h6 a7 h7 a8 h8 hc0 hc1 q k)]
  unfold kernelRun0_A
  dsimp only
  rw [View.canon_cons_unit_zero (S := S8x2048) origin2]
  trans k0_pay1851 (placeAfter i (load a1 h1 inb_S2048x64_S2048x64_0_0 q) (load a2 h2 inb_S4096x64_S4096x64_0_0 k)
    (reload a6 inb_S8x2048_S8x2048_0_0 (k0_pay1 (load a1 h1 inb_S2048x64_S2048x64_0_0 q)))
    (reload a7 inb_S8x2048_S8x2048_0_0 (k0_pay2 (F := F))) (reload a8 inb_S8x2048_S8x2048_0_0 (k0_pay3 (F := F))))
  · sl_kernel_rfl
  · rw [load_eq origin2, load_eq origin2, reload_eq origin2, reload_eq origin2, reload_eq origin2]
    exact shapeCast_self _ _

/-- A middle point leaves the least distances of the contents before and its block. -/
theorem middle_least (hc0 : ¬cond0_0 i) (hc1 : ¬cond0_1 i) :
    sout0_B_1 c i a1 h1 a2 h2 a3 h3 a4 h4 a5 h5 a6 h6 a7 h7 a8 h8 hc0 hc1 q k qn m x = leastAfter q k qn m := by
  unfold sout0_B_1
  rw [View.read_writes_eq_canon _ _ _
    (scover0_B_1 c i a1 h1 a2 h2 a3 h3 a4 h4 a5 h5 a6 h6 a7 h7 a8 h8 hc0 hc1 q k qn m x)]
  unfold kernelRun0_B
  dsimp only
  rw [View.canon_cons_unit_zero (S := S8x2048) origin2]
  trans k0_pay1850 (leastAfter (load a1 h1 inb_S2048x64_S2048x64_0_0 q) (load a2 h2 inb_S4096x64_S4096x64_0_0 k)
    (load a6 h6 inb_S8x2048_S8x2048_0_0 qn) (load a7 h7 inb_S8x2048_S8x2048_0_0 m))
  · sl_kernel_rfl
  · rw [load_eq origin2, load_eq origin2, load_eq origin2, load_eq origin2]
    exact shapeCast_self _ _

/-- A middle point leaves the kept strip numbers of the contents before and its block. -/
theorem middle_place (hc0 : ¬cond0_0 i) (hc1 : ¬cond0_1 i) :
    sout0_B_2 c i a1 h1 a2 h2 a3 h3 a4 h4 a5 h5 a6 h6 a7 h7 a8 h8 hc0 hc1 q k qn m x = placeAfter i q k qn m x := by
  unfold sout0_B_2
  rw [View.read_writes_eq_canon _ _ _
    (scover0_B_2 c i a1 h1 a2 h2 a3 h3 a4 h4 a5 h5 a6 h6 a7 h7 a8 h8 hc0 hc1 q k qn m x)]
  unfold kernelRun0_B
  dsimp only
  rw [View.canon_cons_unit_zero (S := S8x2048) origin2]
  trans k0_pay1851 (placeAfter i (load a1 h1 inb_S2048x64_S2048x64_0_0 q) (load a2 h2 inb_S4096x64_S4096x64_0_0 k)
    (load a6 h6 inb_S8x2048_S8x2048_0_0 qn) (load a7 h7 inb_S8x2048_S8x2048_0_0 m)
    (load a8 h8 inb_S8x2048_S8x2048_0_0 x))
  · sl_kernel_rfl
  · rw [load_eq origin2, load_eq origin2, load_eq origin2, load_eq origin2, load_eq origin2]
    exact shapeCast_self _ _

/-- The last point writes the patch scores of the walk's end. -/
theorem last_scores (hc0 : ¬cond0_0 i) (hc1 : cond0_1 i) :
    out0_C_2 c i a1 h1 a2 h2 a3 h3 a4 h4 a5 h5 a6 h6 a7 h7 a8 h8 hc0 hc1 q k qn m x
      = k0_pay1853 (leastAfter q k qn m) := by
  unfold out0_C_2
  rw [View.read_writes_eq_canon _ _ _
    (cover0_C_2 c i a1 h1 a2 h2 a3 h3 a4 h4 a5 h5 a6 h6 a7 h7 a8 h8 hc0 hc1 q k qn m x)]
  unfold kernelRun0_C
  dsimp only
  rw [View.canon_unit_zero (S := S2048) origin1]
  trans k0_pay1853 (leastAfter (load a1 h1 inb_S2048x64_S2048x64_0_0 q) (load a2 h2 inb_S4096x64_S4096x64_0_0 k)
    (load a6 h6 inb_S8x2048_S8x2048_0_0 qn) (load a7 h7 inb_S8x2048_S8x2048_0_0 m))
  · sl_kernel_rfl
  · rw [load_eq origin2, load_eq origin2, load_eq origin2, load_eq origin2]

/-- The last point writes the image scores of the walk's end. -/
theorem last_images (hc0 : ¬cond0_0 i) (hc1 : cond0_1 i) :
    out0_C_3 c i a1 h1 a2 h2 a3 h3 a4 h4 a5 h5 a6 h6 a7 h7 a8 h8 hc0 hc1 q k qn m x
      = k0_pay1854 (leastAfter q k qn m) := by
  unfold out0_C_3
  rw [View.read_writes_eq_canon _ _ _
    (cover0_C_3 c i a1 h1 a2 h2 a3 h3 a4 h4 a5 h5 a6 h6 a7 h7 a8 h8 hc0 hc1 q k qn m x)]
  unfold kernelRun0_C
  dsimp only
  rw [View.canon_unit_zero (S := S8) origin1]
  trans k0_pay1854 (leastAfter (load a1 h1 inb_S2048x64_S2048x64_0_0 q) (load a2 h2 inb_S4096x64_S4096x64_0_0 k)
    (load a6 h6 inb_S8x2048_S8x2048_0_0 qn) (load a7 h7 inb_S8x2048_S8x2048_0_0 m))
  · sl_kernel_rfl
  · rw [load_eq origin2, load_eq origin2, load_eq origin2, load_eq origin2]

/-- The last point writes the indices of the walk's end. -/
theorem last_indices (hc0 : ¬cond0_0 i) (hc1 : cond0_1 i) :
    out0_C_4 c i a1 h1 a2 h2 a3 h3 a4 h4 a5 h5 a6 h6 a7 h7 a8 h8 hc0 hc1 q k qn m x
      = k0_pay1855 (leastAfter q k qn m) (placeAfter i q k qn m x) := by
  unfold out0_C_4
  rw [View.read_writes_eq_canon _ _ _
    (cover0_C_4 c i a1 h1 a2 h2 a3 h3 a4 h4 a5 h5 a6 h6 a7 h7 a8 h8 hc0 hc1 q k qn m x)]
  unfold kernelRun0_C
  dsimp only
  rw [View.canon_unit_zero (S := S2048) origin1]
  trans k0_pay1855 (leastAfter (load a1 h1 inb_S2048x64_S2048x64_0_0 q) (load a2 h2 inb_S4096x64_S4096x64_0_0 k)
      (load a6 h6 inb_S8x2048_S8x2048_0_0 qn) (load a7 h7 inb_S8x2048_S8x2048_0_0 m))
    (reload a8 inb_S8x2048_S8x2048_0_0 (k0_pay1851 (placeAfter i (load a1 h1 inb_S2048x64_S2048x64_0_0 q)
      (load a2 h2 inb_S4096x64_S4096x64_0_0 k) (load a6 h6 inb_S8x2048_S8x2048_0_0 qn)
      (load a7 h7 inb_S8x2048_S8x2048_0_0 m) (load a8 h8 inb_S8x2048_S8x2048_0_0 x))))
  · sl_kernel_rfl
  · rw [load_eq origin2, load_eq origin2, load_eq origin2, load_eq origin2, load_eq origin2, reload_eq origin2]
    congr 1
    exact shapeCast_self _ _

end

end Cert.KernelIdeal.Point

end
-- ==== Proof.Sweep.lean ====
/- What the carried buffers hold along the grid, and the three results.

   Grid point `n` reads all the queries and keys `4096 n … 4096 n + 4095`. The carried buffers after it are the walk
   (`Point.leastAfter`, `Point.placeAfter`) continued over those keys; the results are read off the walk's end after
   the sixteenth point. -/
module

public import proofs.«01_k».proof.Proof.Point
public import proofs.«01_k».proof.Proof.Gen.KernelIdeal.Value

@[expose] public section

set_option maxRecDepth 16384

noncomputable section

namespace Cert.KernelIdeal.Sweep

open Cert.KernelIdeal Cert.KernelIdeal.Gen Cert.KernelIdeal.Point Idealize.ShloMosaic Idealize.ShloMosaic.TcCoe

variable {F : FTy → Type} [FloatOps F]

/-- Block `n` (mod 16) of the keys: rows `4096 n …`. -/
def keyBlock (k : Vec F S65536x64 .f32) (n : ℕ) : Vec F S4096x64 .f32 := fun j =>
  k (fun a => match a with
    | ⟨0, _⟩ => ⟨4096 * (n % 16) + (j 0).val, by
        have h : (j 0).val < 4096 := (j 0).isLt
        show 4096 * (n % 16) + (j 0).val < 65536; omega⟩
    | ⟨1, _⟩ => ⟨(j 1).val, (j 1).isLt⟩)

/-- The grid point `n` (mod 16). -/
def point (n : ℕ) : Fin cfg0.N := ⟨n % 16, lt_of_lt_of_eq (Nat.mod_lt _ (by decide)) N_0.symm⟩

/-- The least distances after `n` blocks of keys. -/
def leastBlocks (q : Vec F S2048x64 .f32) (k : Vec F S65536x64 .f32) : ℕ → Vec F S8x2048 .f32
  | 0 => k0_pay2
  | n + 1 => leastAfter q (keyBlock k n) (k0_pay1 q) (leastBlocks q k n)

/-- The kept strip numbers after `n` blocks of keys. -/
def placeBlocks (q : Vec F S2048x64 .f32) (k : Vec F S65536x64 .f32) : ℕ → Vec F S8x2048 .f32
  | 0 => k0_pay3
  | n + 1 => placeAfter (grid0.coords (point n)) q (keyBlock k n) (k0_pay1 q) (leastBlocks q k n) (placeBlocks q k n)

theorem leastBlocks_succ (q : Vec F S2048x64 .f32) (k : Vec F S65536x64 .f32) (n : ℕ) : leastBlocks q k (n + 1)
    = leastAfter q (keyBlock k n) (k0_pay1 q) (leastBlocks q k n) := rfl
theorem placeBlocks_succ (q : Vec F S2048x64 .f32) (k : Vec F S65536x64 .f32) (n : ℕ) : placeBlocks q k (n + 1)
    = placeAfter (grid0.coords (point n)) q (keyBlock k n) (k0_pay1 q) (leastBlocks q k n) (placeBlocks q k n) := rfl

/-- The first coordinate of grid point `t` is `t`. -/
theorem coords_val : ∀ t : Fin cfg0.N, (grid0.coords t 0).val = t.val := by decide

theorem index_queries : ∀ t : Fin cfg0.N, win0_0.index t 0 = 0 ∧ win0_0.index t 1 = 0 := by decide
theorem index_keys : ∀ t : Fin cfg0.N, win0_1.index t 0 = t.val ∧ win0_1.index t 1 = 0 := by decide

variable (m : (ℓ : Loc nD τ sig) → Buf (Elt F) ℓ) (c : Dev nD)

/-- The queries and the keys the launch reads. -/
abbrev queries : Vec F S2048x64 .f32 := m ((c : Thread nD τ).loc main_arg0)
abbrev keys : Vec F S65536x64 .f32 := m ((c : Thread nD τ).loc main_arg1)

/-- Every point reads all the queries. -/
theorem read_queries (t : Fin cfg0.N) : (iblk m c 0 t : Vec F S2048x64 .f32) = queries m c := by
  funext j
  unfold iblk
  rw [View.read_apply]
  show V m c main_arg0 _ = m (c.tc.loc main_arg0) _
  unfold V
  congr 1
  funext a
  apply Fin.ext
  match a with
  | ⟨0, _⟩ => show win0_0.index t 0 * 2048 + 1 * (j 0).val = (j 0).val; rw [(index_queries t).1]; omega
  | ⟨1, _⟩ => show win0_0.index t 1 * 64 + 1 * (j 1).val = (j 1).val; rw [(index_queries t).2]; omega

/-- Point `t` reads block `t` of the keys. -/
theorem read_keys (t : Fin cfg0.N) : (iblk m c 1 t : Vec F S4096x64 .f32) = keyBlock (keys m c) t.val := by
  have ht : t.val < 16 := lt_of_lt_of_eq t.isLt N_0
  funext j
  unfold iblk keyBlock
  rw [View.read_apply]
  show V m c main_arg1 _ = m (c.tc.loc main_arg1) _
  unfold V
  congr 1
  funext a
  apply Fin.ext
  match a with
  | ⟨0, _⟩ =>
    show win0_1.index t 0 * 4096 + 1 * (j 0).val = 4096 * (t.val % 16) + (j 0).val
    rw [(index_keys t).1, Nat.mod_eq_of_lt ht]; omega
  | ⟨1, _⟩ => show win0_1.index t 1 * 64 + 1 * (j 1).val = (j 1).val; rw [(index_keys t).2]; omega

/-- The carried buffers after point `n`, all but the last. -/
theorem carried : ∀ (n : ℕ) (hn : n < cfg0.N), n < 15 →
    (outsAt0 m c n hn).2.2.2 = (k0_pay1 (queries m c), leastBlocks (queries m c) (keys m c) (n + 1),
      placeBlocks (queries m c) (keys m c) (n + 1))
  | 0, hn, _ => by
    have hp : point 0 = ⟨0, hn⟩ := Fin.ext rfl
    have h1 : ¬(0 : ℕ) % 16 = 15 := by decide
    rw [Value.outsAt0_zero, Value.stAt0_A m c ⟨0, hn⟩ _ (Nat.zero_mod _) h1]
    dsimp only
    rw [first_norms, first_least, first_place, read_queries, read_keys, leastBlocks_succ, placeBlocks_succ, hp]
    rfl
  | n + 1, hn, h15 => by
    have ih := carried n (Nat.lt_of_succ_lt hn) (by omega)
    have e0 : (outsAt0 m c n (Nat.lt_of_succ_lt hn)).2.2.2.1 = k0_pay1 (queries m c) := congrArg (·.1) ih
    have e1 : (outsAt0 m c n (Nat.lt_of_succ_lt hn)).2.2.2.2.1 = leastBlocks (queries m c) (keys m c) (n + 1) :=
      congrArg (·.2.1) ih
    have e2 : (outsAt0 m c n (Nat.lt_of_succ_lt hn)).2.2.2.2.2 = placeBlocks (queries m c) (keys m c) (n + 1) :=
      congrArg (·.2.2) ih
    have hp : point (n + 1) = ⟨n + 1, hn⟩ := Fin.ext (Nat.mod_eq_of_lt (show n + 1 < 16 by omega))
    have h0 : ¬(n + 1) % 16 = 0 := by omega
    have h1 : ¬(n + 1) % 16 = 15 := by omega
    rw [Value.outsAt0_succ, Value.stAt0_B m c ⟨n + 1, hn⟩ _ h0 h1]
    dsimp only
    rw [middle_least, middle_place, read_queries, read_keys, e0, e1, e2, leastBlocks_succ _ _ (n + 1), placeBlocks_succ _ _ (n + 1), hp]
    rfl

/-- What the last point leaves in the three outputs' blocks. -/
theorem results (n : ℕ) (hn : n + 1 < cfg0.N) (hl : n + 1 = 15) :
    (outsAt0 m c (n + 1) hn).1 = k0_pay1853 (leastBlocks (queries m c) (keys m c) (n + 1 + 1))
      ∧ (outsAt0 m c (n + 1) hn).2.1 = k0_pay1854 (leastBlocks (queries m c) (keys m c) (n + 1 + 1))
      ∧ (outsAt0 m c (n + 1) hn).2.2.1 = k0_pay1855 (leastBlocks (queries m c) (keys m c) (n + 1 + 1))
          (placeBlocks (queries m c) (keys m c) (n + 1 + 1)) := by
  have ih := carried m c n (Nat.lt_of_succ_lt hn) (by omega)
  have e0 : (outsAt0 m c n (Nat.lt_of_succ_lt hn)).2.2.2.1 = k0_pay1 (queries m c) := congrArg (·.1) ih
  have e1 : (outsAt0 m c n (Nat.lt_of_succ_lt hn)).2.2.2.2.1 = leastBlocks (queries m c) (keys m c) (n + 1) :=
    congrArg (·.2.1) ih
  have e2 : (outsAt0 m c n (Nat.lt_of_succ_lt hn)).2.2.2.2.2 = placeBlocks (queries m c) (keys m c) (n + 1) :=
    congrArg (·.2.2) ih
  have hp : point (n + 1) = ⟨n + 1, hn⟩ := Fin.ext (Nat.mod_eq_of_lt (show n + 1 < 16 by omega))
  have h0 : ¬(n + 1) % 16 = 0 := by omega
  have h1 : (n + 1) % 16 = 15 := by omega
  rw [Value.outsAt0_succ, Value.stAt0_C m c ⟨n + 1, hn⟩ _ h0 h1]
  dsimp only
  rw [last_scores, last_images, last_indices, read_queries, read_keys, e0, e1, e2]
  rw [leastBlocks_succ _ _ (n + 1), placeBlocks_succ _ _ (n + 1), hp]
  exact ⟨rfl, rfl, rfl⟩

/-- The fold over the whole grid at any spelling of its last point. -/
theorem sweep_last (n : ℕ) (hn : n < cfg0.N) (hl : n = 15) :
    Pipeline.accAt (fun n h => Value.stAt0 m c n h Value.junk0) (Value.stAt0 m c) 0 15
      (lt_of_lt_of_eq (by decide) N_0.symm) = outsAt0 m c n hn := by
  subst hl
  exact (Value.outsAt0_sweep m c 15 hn).symm

/-- The arrays the run leaves: the patch scores, the image scores and the indices read off the walk over all keys. -/
theorem arrays :
    Value.G2 m c = k0_pay1853 (leastBlocks (queries m c) (keys m c) 16)
      ∧ Value.G3 m c = k0_pay1854 (leastBlocks (queries m c) (keys m c) 16)
      ∧ Value.G4 m c = k0_pay1855 (leastBlocks (queries m c) (keys m c) 16)
          (placeBlocks (queries m c) (keys m c) 16) := by
  obtain ⟨n, hl⟩ : ∃ n, n + 1 = 15 := ⟨14, rfl⟩
  have hn : n + 1 < cfg0.N := by rw [hl]; exact lt_of_lt_of_eq (by decide) N_0.symm
  have e := sweep_last m c (n + 1) hn hl
  obtain ⟨r2, r3, r4⟩ := results m c n hn hl
  have h16 : n + 1 + 1 = 16 := by omega
  rw [h16] at r2 r3 r4
  exact ⟨(Value.G2_last m c).trans ((congrArg (·.1) e).trans r2),
    (Value.G3_last m c).trans ((congrArg (·.2.1) e).trans r3),
    (Value.G4_last m c).trans ((congrArg (·.2.2.1) e).trans r4)⟩

end Cert.KernelIdeal.Sweep

end
-- ==== Proof.Numbers.lean ====
/- The float constants of the two programs as extended reals, and whole numbers as 32-bit integers. -/
module

public import proofs.«01_k».proof.Proof.Strips
public import Idealize.ShloMosaic.PureOps.Ideal.Laws

@[expose] public section

noncomputable section

namespace Cert.Numbers

open Idealize.ShloMosaic Cert.KernelIdeal.Strips

/-- What a 32-bit pattern denotes. -/
theorem ofBits_f32 (b : BitVec 32) : Ideal.ofBits .f32 b = Ideal.ieee 8 23 b := rfl

/-- The three fields of such a pattern. -/
theorem sign_bit (e f : ℕ) (he' : e < 255) (hf : f < 8388608) :
    ((BitVec.ofNat 32 (e * 8388608 + f)).extractLsb' (8 + 23) 1 == 1#1) = false := by
    rw [beq_eq_false_iff_ne]
    intro h
    have h' := congrArg BitVec.toNat h
    rw [BitVec.extractLsb'_toNat, BitVec.toNat_ofNat, Nat.shiftRight_eq_div_pow] at h'
    have h2 : (1#1).toNat = 1 := rfl
    rw [h2] at h'
    omega

theorem exponent_bits (e f : ℕ) (he' : e < 255) (hf : f < 8388608) :
    ((BitVec.ofNat 32 (e * 8388608 + f)).extractLsb' 23 8).toNat = e := by
    rw [BitVec.extractLsb'_toNat, BitVec.toNat_ofNat, Nat.shiftRight_eq_div_pow]
    omega

theorem fraction_bits (e f : ℕ) (he' : e < 255) (hf : f < 8388608) :
    ((BitVec.ofNat 32 (e * 8388608 + f)).extractLsb' 0 23).toNat = f := by
    rw [BitVec.extractLsb'_toNat, BitVec.toNat_ofNat, Nat.shiftRight_eq_div_pow]
    omega

/-- A positive normal 32-bit float: exponent field `e`, fraction field `f`. -/
theorem ofBits_fields (e f : ℕ) (he : 0 < e) (he' : e < 255) (hf : f < 8388608) :
    Ideal.ofBits .f32 (BitVec.ofNat 32 (e * 8388608 + f))
      = (((8388608 + f : ℝ) * (2 : ℝ) ^ ((e : ℤ) - 150) : ℝ) : EReal) := by
  rw [ofBits_f32]
  unfold Ideal.ieee
  simp only [sign_bit e f he' hf, exponent_bits e f he' hf, fraction_bits e f he' hf]
  rw [if_neg (by omega), if_neg (by omega)]
  congr 1
  rw [show (e : ℤ) - (2 ^ (8 - 1) - 1) - ((23 : ℕ) : ℤ) = (e : ℤ) - 150 by norm_num; ring]
  push_cast
  norm_num

/-- The pattern `0xC0000000` is `−2`. -/
theorem minus_two : Ideal.ofBits .f32 3221225472#32 = ((-2 : ℝ) : EReal) := by
  rw [ofBits_f32]
  unfold Ideal.ieee
  have h1 : ((3221225472#32).extractLsb' (8 + 23) 1 == 1#1) = true := by decide
  have h2 : ((3221225472#32).extractLsb' 23 8).toNat = 128 := by decide
  have h3 : ((3221225472#32).extractLsb' 0 23).toNat = 0 := by decide
  simp only [h1, h2, h3]
  norm_num

/-- The pattern `0x7F800000` is `+∞`. -/
theorem infinity : Ideal.ofBits .f32 2139095040#32 = (⊤ : EReal) := by
  rw [ofBits_f32]
  unfold Ideal.ieee
  have h1 : ((2139095040#32).extractLsb' (8 + 23) 1 == 1#1) = false := by decide
  have h2 : ((2139095040#32).extractLsb' 23 8).toNat = 255 := by decide
  have h3 : ((2139095040#32).extractLsb' 0 23).toNat = 0 := by decide
  simp only [h1, h2, h3]
  norm_num

/-- The pattern `0x40000000` is `2`. -/
theorem two : Ideal.ofBits .f32 1073741824#32 = ((2 : ℝ) : EReal) := by
  rw [show 1073741824#32 = BitVec.ofNat 32 (128 * 8388608 + 0) from by decide,
    ofBits_fields 128 0 (by decide) (by decide) (by decide)]
  norm_num

/-- The pattern `0xFF800000` is `−∞`. -/
theorem minus_infinity : Ideal.ofBits .f32 4286578688#32 = (⊥ : EReal) := by
  rw [ofBits_f32]
  unfold Ideal.ieee
  have h1 : ((4286578688#32).extractLsb' (8 + 23) 1 == 1#1) = true := by decide
  have h2 : ((4286578688#32).extractLsb' 23 8).toNat = 255 := by decide
  have h3 : ((4286578688#32).extractLsb' 0 23).toNat = 0 := by decide
  simp only [h1, h2, h3]
  norm_num

/-- The clipping bound, the float next to `10⁻¹²`, as a real. -/
def bound : ℝ := (8388608 + (834764 : ℕ) : ℝ) * (2 : ℝ) ^ (((87 : ℕ) : ℤ) - 150)

theorem bound_pos : 0 < bound := by unfold bound; positivity

/-- The pattern `0x2B8CBCCC` is the clipping bound. -/
theorem ofBits_bound : Ideal.ofBits .f32 730643660#32 = (bound : EReal) := by
  rw [show 730643660#32 = BitVec.ofNat 32 (87 * 8388608 + 834764) from by decide,
    ofBits_fields 87 834764 (by decide) (by decide) (by decide)]
  rfl

/-- The pattern of `8n` in its fields, for `0 < n < 512`. -/
theorem word_fields (n e : ℕ) (hlo : 2 ^ e ≤ n) (hhi : n < 2 ^ (e + 1)) (he : e ≤ 8) :
    word n = (130 + e) * 8388608 + (n * 2 ^ (23 - e) - 8388608) ∧ n * 2 ^ (23 - e) < 2 * 8388608
      ∧ 8388608 ≤ n * 2 ^ (23 - e) := by
  have h0 : n ≠ 0 := by have := Nat.two_pow_pos e; omega
  have hlog : Nat.log2 n = e := (Nat.log2_eq_iff h0).2 ⟨hlo, hhi⟩
  have hp : 2 ^ e * 2 ^ (23 - e) = 8388608 := by rw [← Nat.pow_add, show e + (23 - e) = 23 by omega]
  have hp' : 2 ^ (e + 1) * 2 ^ (23 - e) = 2 * 8388608 := by rw [Nat.pow_succ, ← hp]; ring
  have h1 : 8388608 ≤ n * 2 ^ (23 - e) := hp ▸ Nat.mul_le_mul_right _ hlo
  have h2 : n * 2 ^ (23 - e) < 2 * 8388608 := hp' ▸ Nat.mul_lt_mul_of_pos_right hhi (Nat.two_pow_pos _)
  refine ⟨?_, h2, h1⟩
  unfold word
  rw [hlog, show 1 - (1 - n) = 1 by omega, Nat.one_mul, show (2 : ℕ) ^ 23 = 8388608 from rfl]
  omega

/-- The pattern `word n` is `8n`. -/
theorem ofBits_word (n : ℕ) (hn : n < 512) :
    Ideal.ofBits .f32 (BitVec.ofNat 32 (word n)) = (((8 * n : ℕ) : ℝ) : EReal) := by
  rcases Nat.eq_zero_or_pos n with rfl | hpos
  · rw [show word 0 = 0 from by unfold word; simp, show BitVec.ofNat 32 0 = 0#32 from rfl, Ideal.ofBits_zero_f32]
    simp
  · have he : Nat.log2 n ≤ 8 := by
      have := (Nat.log2_lt (k := 9) (show n ≠ 0 by omega)).2 hn
      omega
    obtain ⟨hw, h2, h1⟩ := word_fields n (Nat.log2 n) (Nat.log2_self_le (by omega)) Nat.lt_log2_self he
    generalize Nat.log2 n = e at he hw h2 h1
    rw [hw, ofBits_fields (130 + e) (n * 2 ^ (23 - e) - 8388608) (by omega) (by omega) (by omega)]
    refine congrArg Real.toEReal ?_
    rw [Nat.cast_sub h1]
    push_cast
    rw [add_sub_cancel, mul_assoc, ← zpow_natCast, ← zpow_add₀ (by norm_num),
      show ((23 - e : ℕ) : ℤ) + ((130 + (e : ℤ)) - 150) = 3 by omega]
    norm_num
    ring

/-- The 32-bit integer of an exact whole number. -/
theorem fptosi_nat (n : ℕ) (hn : n < 2147483648) : Ideal.fptosi 32 (((n : ℕ) : ℝ) : EReal) = BitVec.ofNat 32 n := by
  show BitVec.ofInt 32 (max (-((2 ^ 31 : ℕ) : ℤ)) (min (((2 ^ 31 : ℕ) : ℤ) - 1)
    (if (0 : ℝ) ≤ ((n : ℕ) : ℝ) then ⌊((n : ℕ) : ℝ)⌋ else ⌈((n : ℕ) : ℝ)⌉))) = _
  rw [if_pos (Nat.cast_nonneg n), Int.floor_natCast, show ((2 ^ 31 : ℕ) : ℤ) = 2147483648 from rfl,
    min_eq_right (by omega), max_eq_right (by omega)]
  exact BitVec.ofInt_natCast 32 n

end Cert.Numbers

end
-- ==== Proof.Scan.lean ====
/- The least entry of a list of distances and where it first stands, by a walk that keeps both.

   `scan` is the walk the kernel makes on one sublane for one query. Eight such walks, one per residue mod 8, give the
   least of all the distances and, after a last comparison among the eight, the first key that attains it. -/
module

public import Idealize.ShloMosaic.PureOps.Ideal.Laws
public import Idealize.ShloMosaic.Lib.Pointwise

@[expose] public section

namespace Cert.Scan

/-- The least of the first `n` entries of `d` and the first place it stands, starting from `+∞` at place zero. -/
noncomputable def scan (d : ℕ → EReal) : ℕ → EReal × ℕ
  | 0 => (⊤, 0)
  | n + 1 => if d n < (scan d n).1 then (d n, n) else scan d n

theorem scan_succ (d : ℕ → EReal) (n : ℕ) :
    scan d (n + 1) = if d n < (scan d n).1 then (d n, n) else scan d n := rfl

/-- What the walk keeps, when every entry is below `+∞`: the place lies among those visited, the least is the entry
    there, no visited entry is below it and every earlier one is above it. -/
theorem scan_spec (d : ℕ → EReal) (hd : ∀ g, d g < ⊤) (n : ℕ) :
    (scan d (n + 1)).2 < n + 1 ∧ (scan d (n + 1)).1 = d (scan d (n + 1)).2
      ∧ (∀ g < n + 1, (scan d (n + 1)).1 ≤ d g) ∧ ∀ g < (scan d (n + 1)).2, (scan d (n + 1)).1 < d g := by
  induction n with
  | zero =>
    have h : scan d (0 + 1) = (d 0, 0) := by
      rw [scan_succ, if_pos]
      exact hd 0
    rw [h]
    refine ⟨Nat.one_pos, rfl, fun g hg => ?_, fun g hg => absurd hg (Nat.not_lt_zero g)⟩
    obtain rfl : g = 0 := by omega
    exact le_refl _
  | succ n ih =>
    obtain ⟨hlt, hval, hle, hfirst⟩ := ih
    rw [scan_succ d (n + 1)]
    by_cases h : d (n + 1) < (scan d (n + 1)).1
    · rw [if_pos h]
      refine ⟨Nat.lt_succ_self _, rfl, fun g hg => ?_, fun g hg => lt_of_lt_of_le h (hle g hg)⟩
      rcases Nat.lt_succ_iff_lt_or_eq.1 hg with h' | rfl
      · exact (lt_of_lt_of_le h (hle g h')).le
      · exact le_refl _
    · rw [if_neg h]
      refine ⟨Nat.lt_succ_of_lt hlt, hval, fun g hg => ?_, hfirst⟩
      rcases Nat.lt_succ_iff_lt_or_eq.1 hg with h' | rfl
      · exact hle g h'
      · exact not_lt.1 h

/-- A fold of minima from `+∞` is the value some entry has and none is below. -/
theorem fold_min_eq {n : ℕ} (f : Fin n → EReal) (a : Fin n) (v : EReal) (ha : f a = v) (h : ∀ b, v ≤ f b) :
    Finset.fold min ⊤ f Finset.univ = v :=
  le_antisymm (Finset.fold_min_le _ |>.2 (Or.inr ⟨a, Finset.mem_univ a, ha.le⟩))
    (Finset.le_fold_min _ |>.2 ⟨le_top, fun b _ => h b⟩)

/-- Eight walks, one per residue: the least among their ends is the least of all the entries, and the least number
    `8g + r` among the walks whose end equals it is the first place where it stands. -/
theorem eight_walks (D : ℕ → EReal) (hD : ∀ k, D k < ⊤) (n : ℕ) :
    ∃ k < 8 * (n + 1),
      (Finset.fold min ⊤ (fun r : Fin 8 => (scan (fun g => D (8 * g + r.val)) (n + 1)).1) Finset.univ = D k)
        ∧ (∀ k' < 8 * (n + 1), D k ≤ D k') ∧ (∀ k' < k, D k < D k')
        ∧ Finset.fold min ⊤ (fun r : Fin 8 =>
            if (scan (fun g => D (8 * g + r.val)) (n + 1)).1 = D k
            then (((8 * (scan (fun g => D (8 * g + r.val)) (n + 1)).2 : ℕ) : ℝ) : EReal) + ((r.val : ℝ) : EReal)
            else ⊤) Finset.univ = ((k : ℝ) : EReal) := by
  have spec := fun r : Fin 8 => scan_spec (fun g => D (8 * g + r.val)) (fun g => hD _) n
  generalize hs : (fun r : Fin 8 => scan (fun g => D (8 * g + r.val)) (n + 1)) = s
  have hs' : ∀ r : Fin 8, scan (fun g => D (8 * g + r.val)) (n + 1) = s r := fun r => congrFun hs r
  simp only [hs'] at spec ⊢
  obtain ⟨r0, hr0⟩ := Finite.exists_min (fun r => (s r).1)
  obtain ⟨r1, hr1, hmin⟩ := Finset.exists_min_image (Finset.univ.filter fun r => (s r).1 = (s r0).1)
    (fun r => 8 * (s r).2 + r.val) ⟨r0, by simp⟩
  rw [Finset.mem_filter] at hr1
  have e1 : (s r1).1 = (s r0).1 := hr1.2
  have hk : D (8 * (s r1).2 + r1.val) = (s r0).1 := by rw [← e1]; exact (spec r1).2.1.symm
  have below : ∀ k' < 8 * (n + 1), (s ⟨k' % 8, Nat.mod_lt _ (by decide)⟩).1 ≤ D k' := fun k' hk' => by
    have := (spec ⟨k' % 8, Nat.mod_lt _ (by decide)⟩).2.2.1 (k' / 8) (by omega)
    simpa only [Nat.div_add_mod] using this
  have lt1 : 8 * (s r1).2 + r1.val < 8 * (n + 1) := by
    have := (spec r1).1
    have := r1.isLt
    omega
  refine ⟨8 * (s r1).2 + r1.val, lt1, ?_, fun k' hk' => ?_, fun k' hk' => ?_, ?_⟩
  · rw [hk]
    exact fold_min_eq _ r0 _ rfl hr0
  · rw [hk]
    exact (hr0 _).trans (below k' hk')
  · have hle : D (8 * (s r1).2 + r1.val) ≤ D k' := by
      rw [hk]
      exact (hr0 _).trans (below k' (by omega))
    refine lt_of_le_of_ne hle fun heq => ?_
    have heq' : D k' = (s r0).1 := heq.symm.trans hk
    have hres : (s ⟨k' % 8, Nat.mod_lt _ (by decide)⟩).1 = (s r0).1 :=
      le_antisymm ((below k' (by omega)).trans heq'.le) (hr0 _)
    have hm := hmin ⟨k' % 8, Nat.mod_lt _ (by decide)⟩ (Finset.mem_filter.2 ⟨Finset.mem_univ _, hres⟩)
    have hf : ¬ k' / 8 < (s ⟨k' % 8, Nat.mod_lt _ (by decide)⟩).2 := fun h => by
      have h' := (spec ⟨k' % 8, Nat.mod_lt _ (by decide)⟩).2.2.2 (k' / 8) h
      simp only [Nat.div_add_mod] at h'
      rw [heq', hres] at h'
      exact lt_irrefl _ h'
    simp only at hm
    omega
  · rw [hk]
    refine fold_min_eq _ r1 _ ?_ fun r => ?_
    · rw [if_pos e1]
      push_cast
      rfl
    · by_cases h : (s r).1 = (s r0).1
      · rw [if_pos h]
        have hm := hmin r (Finset.mem_filter.2 ⟨Finset.mem_univ _, h⟩)
        have hm' : ((8 * (s r1).2 + r1.val : ℕ) : ℝ) ≤ ((8 * (s r).2 + r.val : ℕ) : ℝ) := Nat.cast_le.2 hm
        rw [← EReal.coe_add]
        refine EReal.coe_le_coe_iff.2 ?_
        push_cast at hm' ⊢
        exact hm'
      · rw [if_neg h]
        exact le_top

end Cert.Scan
-- ==== Proof.Walk.lean ====
/- The carried buffers over the extended reals, entry by entry.

   At sublane `r` and query `j` the kernel's walk over all keys is the walk `Scan.scan` over the distances of query `j`
   to the keys `r`, `8 + r`, `16 + r`, …: the least distance, and eight times the place where it first stands. -/
module

public import proofs.«01_k».proof.Proof.Sweep
public import proofs.«01_k».proof.Proof.Numbers
public import proofs.«01_k».proof.Proof.Scan
public import Idealize.ShloMosaic.Lib.Pointwise

@[expose] public section

set_option maxRecDepth 16384

noncomputable section

namespace Cert.KernelIdeal.Walk

open Cert.KernelIdeal Cert.KernelIdeal.Gen Cert.KernelIdeal.Strips Cert.KernelIdeal.Point Cert.KernelIdeal.Sweep
open Idealize.ShloMosaic Cert.Scan Cert.Numbers

/-- The squared distance of query `j` and key `n` (mod 65536) as the kernel adds it up: the query's squared norm, plus
    the product of the key and `−2` times the query, plus the key's squared norm. -/
def near (q : Vec Ideal S2048x64 .f32) (k : Vec Ideal S65536x64 .f32) (j : Fin 2048) (n : ℕ) : EReal :=
  ∑ x : Fin 64, q (ix2 j x) * q (ix2 j x)
    + ∑ x : Fin 64, k (ix2 ⟨n % 65536, Nat.mod_lt _ (by decide)⟩ x) * (q (ix2 j x) * ((-2 : ℝ) : EReal))
    + ∑ x : Fin 64, k (ix2 ⟨n % 65536, Nat.mod_lt _ (by decide)⟩ x) * k (ix2 ⟨n % 65536, Nat.mod_lt _ (by decide)⟩ x)

/-- Row `a` of block `b` is row `4096 b + a` of all the keys. -/
theorem keyBlock_apply (k : Vec Ideal S65536x64 .f32) (b : ℕ) (hb : b < 16) (a : Fin 4096) (x : Fin 64) (n : ℕ)
    (hn : n = 4096 * b + a.val) :
    keyBlock k b (ix2 a x) = k (ix2 ⟨n % 65536, Nat.mod_lt _ (by decide)⟩ x) := by
  have ha := a.isLt
  unfold keyBlock
  congr 1
  funext i
  apply Fin.ext
  match i with
  | ⟨0, _⟩ => show 4096 * (b % 16) + a.val = n % 65536; omega
  | ⟨1, _⟩ => rfl

/-- The distances of strip `n` of block `b`. -/
theorem dist_apply (q : Vec Ideal S2048x64 .f32) (k : Vec Ideal S65536x64 .f32) (b : ℕ) (hb : b < 16) (n : ℕ)
    (hn : n < 512) (r : Fin 8) (j : Fin 2048) :
    dist (k0_pay4 q (keyBlock k b)) (k0_pay1 q) (k0_pay5 (keyBlock k b)) n (ix2 r j)
      = near q k j (8 * (512 * b + n) + r.val) := by
  have hr := r.isLt
  have e : ∀ x : Fin 64, ∀ h, keyBlock k b (ix2 (⟨8 * (n % 512) + r.val, h⟩ : Fin 4096) x)
      = k (ix2 ⟨(8 * (512 * b + n) + r.val) % 65536, Nat.mod_lt _ (by decide)⟩ x) :=
    fun x h => keyBlock_apply k b hb _ x _ (by show _ = 4096 * b + (8 * (n % 512) + r.val); omega)
  generalize keyBlock k b = kb at e
  pointwise [Strips.dist, k0_pay4, k0_pay1, k0_pay5]
  unfold near
  simp only [e, minus_two]

/-- The first key of block `b`, as the kernel holds it. -/
theorem base_apply (b : ℕ) (hb : b < 16) :
    k0_pay6 (F := Ideal) (grid0.coords (point b)) = (((4096 * b : ℕ) : ℝ) : EReal) := by
  have hc : (grid0.coords (point b) 0).val = b := (coords_val (point b)).trans (Nat.mod_eq_of_lt hb)
  have hi : (Scalar.muli (BitVec.ofNat 32 b) 4096#32).toInt = ((4096 * b : ℕ) : ℤ) := by
    interval_cases b <;> decide
  pointwise [k0_pay6]
  rw [hc, hi]
  norm_cast

theorem least_succ (p : FVec Ideal S4096x2048 .f32) (qn : FVec Ideal S8x2048 .f32) (kn : FVec Ideal S4096x1 .f32)
    (m : FVec Ideal S8x2048 .f32) (n : ℕ) (r : Fin 8) (j : Fin 2048) :
    least p qn kn m (n + 1) (ix2 r j)
      = if dist p qn kn n (ix2 r j) < least p qn kn m n (ix2 r j) then dist p qn kn n (ix2 r j)
        else least p qn kn m n (ix2 r j) := by
  rw [least]
  generalize dist p qn kn n = d
  generalize least p qn kn m n = l
  pointwise []

theorem place_succ (p : FVec Ideal S4096x2048 .f32) (qn : FVec Ideal S8x2048 .f32) (kn : FVec Ideal S4096x1 .f32)
    (base : Ideal .f32) (m x : FVec Ideal S8x2048 .f32) (n : ℕ) (r : Fin 8) (j : Fin 2048) :
    place p qn kn base m x (n + 1) (ix2 r j)
      = if dist p qn kn n (ix2 r j) < least p qn kn m n (ix2 r j)
        then base + Ideal.ofBits .f32 (BitVec.ofNat 32 (word n)) else place p qn kn base m x n (ix2 r j) := by
  rw [place]
  generalize dist p qn kn n = d
  generalize least p qn kn m n = l
  generalize place p qn kn base m x n = y
  pointwise [start]

/-- A block continues the walk: from what the first `512 b` strips leave to what `512 b + n` leave. -/
theorem block_walk (q : Vec Ideal S2048x64 .f32) (k : Vec Ideal S65536x64 .f32) (b : ℕ) (hb : b < 16) (r : Fin 8)
    (j : Fin 2048) (m x : Vec Ideal S8x2048 .f32)
    (hm : m (ix2 r j) = (scan (fun g => near q k j (8 * g + r.val)) (512 * b)).1)
    (hx : x (ix2 r j) = (((8 * (scan (fun g => near q k j (8 * g + r.val)) (512 * b)).2 : ℕ) : ℝ) : EReal)) :
    ∀ n ≤ 512,
      least (k0_pay4 q (keyBlock k b)) (k0_pay1 q) (k0_pay5 (keyBlock k b)) m n (ix2 r j)
        = (scan (fun g => near q k j (8 * g + r.val)) (512 * b + n)).1
      ∧ place (k0_pay4 q (keyBlock k b)) (k0_pay1 q) (k0_pay5 (keyBlock k b))
          (k0_pay6 (F := Ideal) (grid0.coords (point b))) m x n (ix2 r j)
        = (((8 * (scan (fun g => near q k j (8 * g + r.val)) (512 * b + n)).2 : ℕ) : ℝ) : EReal)
  | 0, _ => ⟨hm, hx⟩
  | n + 1, hn => by
    obtain ⟨il, ip⟩ := block_walk q k b hb r j m x hm hx n (by omega)
    rw [least_succ, place_succ, il, ip, dist_apply q k b hb n (by omega) r j, ← Nat.add_assoc, scan_succ]
    by_cases h : near q k j (8 * (512 * b + n) + r.val)
        < (scan (fun g => near q k j (8 * g + r.val)) (512 * b + n)).1
    · rw [if_pos h, if_pos h, if_pos h, base_apply b hb, ofBits_word n (by omega), ← EReal.coe_add]
      refine ⟨rfl, congrArg Real.toEReal ?_⟩
      push_cast
      ring
    · rw [if_neg h, if_neg h, if_neg h]
      exact ⟨rfl, rfl⟩

/-- The carried buffers after `b` blocks. -/
theorem blocks_walk (q : Vec Ideal S2048x64 .f32) (k : Vec Ideal S65536x64 .f32) (r : Fin 8) (j : Fin 2048) :
    ∀ b ≤ 16, leastBlocks q k b (ix2 r j) = (scan (fun g => near q k j (8 * g + r.val)) (512 * b)).1
      ∧ placeBlocks q k b (ix2 r j)
        = (((8 * (scan (fun g => near q k j (8 * g + r.val)) (512 * b)).2 : ℕ) : ℝ) : EReal)
  | 0, _ => by
    constructor
    · rw [leastBlocks]
      pointwise [k0_pay2]
      rw [infinity]
      rfl
    · rw [placeBlocks, show (scan (fun g => near q k j (8 * g + r.val)) (512 * 0)).2 = 0 from rfl]
      pointwise [k0_pay3]
      simp
  | b + 1, hb => by
    obtain ⟨il, ip⟩ := blocks_walk q k r j b (by omega)
    rw [leastBlocks_succ, placeBlocks_succ, show 512 * (b + 1) = 512 * b + 512 by ring]
    exact block_walk q k b (by omega) r j _ _ il ip 512 (le_refl _)

end Cert.KernelIdeal.Walk

end
-- ==== Proof.Results.lean ====
/- The kernel's three results over the extended reals.

   For every query whose distances are below `+∞` there is a nearest key, the first in order among the nearest: the
   patch score is the root of its clipped distance and the index is its number. An image's score is the largest of its
   256 patch scores. -/
module

public import proofs.«01_k».proof.Proof.Walk

@[expose] public section

set_option maxRecDepth 16384

noncomputable section

namespace Cert.KernelIdeal.Results

open Cert.KernelIdeal Cert.KernelIdeal.Gen Cert.KernelIdeal.Sweep Cert.KernelIdeal.Walk
open Idealize.ShloMosaic Cert.Scan Cert.Numbers

/-- A sublane number as a float. -/
theorem sublane (r : Fin 8) : FloatOps.sitofp (F := Ideal) .f32 (BitVec.ofNat 32 r.val) = ((r.val : ℝ) : EReal) := by
  show ((((BitVec.ofNat 32 r.val).toInt : ℤ) : ℝ) : EReal) = _
  have h : (BitVec.ofNat 32 r.val).toInt = (r.val : ℤ) := by revert r; decide
  rw [h]
  norm_cast

/-- The patch score of query `j` from the least distances `m` per sublane. -/
theorem score_apply (m : Vec Ideal S8x2048 .f32) (j : Fin 2048) :
    k0_pay1853 (F := Ideal) m (ix1 j)
      = Ideal.sqrt (max (bound : EReal) (Finset.fold min ⊤ (fun r : Fin 8 => m (ix2 r j)) Finset.univ)) := by
  pointwise [k0_pay1853, k0_pay1852]
  rw [ofBits_bound, infinity]

/-- The image score `i` from the least distances. -/
theorem image_apply (m : Vec Ideal S8x2048 .f32) (i : Fin 8) :
    k0_pay1854 (F := Ideal) m (ix1 i)
      = Finset.fold max ⊥ (fun x : Fin 256 => k0_pay1853 (F := Ideal) m (ix1 ⟨i.val * 256 + x.val, by omega⟩)) Finset.univ := by
  unfold k0_pay1854
  generalize k0_pay1853 (F := Ideal) m = p
  pointwise []
  rw [minus_infinity]

/-- The index of query `j` from the least distances and the kept strip numbers. -/
theorem index_apply (m x : Vec Ideal S8x2048 .f32) (j : Fin 2048) :
    k0_pay1855 (F := Ideal) m x (ix1 j)
      = Ideal.fptosi 32 (Finset.fold min ⊤ (fun r : Fin 8 =>
          if m (ix2 r j) = Finset.fold min ⊤ (fun r : Fin 8 => m (ix2 r j)) Finset.univ
          then x (ix2 r j) + ((r.val : ℝ) : EReal) else ⊤) Finset.univ) := by
  pointwise [k0_pay1855, k0_pay1852]
  simp only [infinity, sublane]
  rfl

/-- The patch score and the index of query `j`. -/
theorem nearest (q : Vec Ideal S2048x64 .f32) (k : Vec Ideal S65536x64 .f32) (j : Fin 2048)
    (hD : ∀ n, near q k j n < ⊤) :
    ∃ g < 65536, (∀ n < 65536, near q k j g ≤ near q k j n) ∧ (∀ n < g, near q k j g < near q k j n)
      ∧ k0_pay1853 (F := Ideal) (leastBlocks q k 16) (ix1 j) = Ideal.sqrt (max (bound : EReal) (near q k j g))
      ∧ k0_pay1855 (F := Ideal) (leastBlocks q k 16) (placeBlocks q k 16) (ix1 j) = BitVec.ofNat 32 g := by
  obtain ⟨g, hg, hmin, hle, hlt, hplace⟩ := eight_walks (near q k j) hD 8191
  have el : ∀ r : Fin 8, leastBlocks q k 16 (ix2 r j) = (scan (fun g => near q k j (8 * g + r.val)) (8191 + 1)).1 :=
    fun r => (blocks_walk q k r j 16 (le_refl _)).1
  have ep : ∀ r : Fin 8, placeBlocks q k 16 (ix2 r j)
      = (((8 * (scan (fun g => near q k j (8 * g + r.val)) (8191 + 1)).2 : ℕ) : ℝ) : EReal) :=
    fun r => (blocks_walk q k r j 16 (le_refl _)).2
  refine ⟨g, hg, hle, hlt, ?_, ?_⟩
  · rw [score_apply]
    simp only [el]
    rw [hmin]
  · rw [index_apply]
    simp only [el, ep]
    rw [hmin, hplace, fptosi_nat g (by omega)]

end Cert.KernelIdeal.Results

end
-- ==== Proof.Best.lean ====
/- The first entry of a stable sort by "greater": the first position of the largest.

   A top-k of one sorts a row of the operand so, keeping the order of equal entries, and takes the first entry and its
   position. -/
module

public import Idealize.ShloMosaic.PureOps
public import Idealize.ShloMosaic.Lib.Pointwise

@[expose] public section

set_option maxRecDepth 16384

noncomputable section

namespace Cert.Best

open Idealize.ShloMosaic

/-- The stable sort of an increasing list of positions, the larger values first, begins with a position of the list
    that has the largest value, the first such. -/
theorem stableSort_first {n : ℕ} (f : Fin n → EReal) (before : Fin n → Fin n → Bool)
    (hb : ∀ a b, before a b = true ↔ f b < f a) :
    ∀ l : List (Fin n), l.Pairwise (· < ·) → l ≠ [] → ∃ (h : Fin n) (t : List (Fin n)), stableSort before l = h :: t
      ∧ h ∈ l ∧ (∀ x ∈ l, f x ≤ f h) ∧ ∀ x ∈ l, x < h → f x < f h
  | [], _, hne => absurd rfl hne
  | [a], _, _ => ⟨a, [], rfl, List.mem_singleton.2 rfl,
      fun x hx => by rw [List.mem_singleton.1 hx],
      fun x hx hlt => absurd hlt (by rw [List.mem_singleton.1 hx]; exact lt_irrefl _)⟩
  | a :: b :: l, hp, _ => by
    obtain ⟨ha, hp'⟩ := List.pairwise_cons.1 hp
    obtain ⟨h, t, hs, hmem, hle, hlt⟩ := stableSort_first f before hb (b :: l) hp' (by simp)
    have e : stableSort before (a :: b :: l) = insertBefore before a (h :: t) := by rw [stableSort, hs]
    rw [e, insertBefore]
    by_cases hbh : before h a = true
    · have hfa : f a < f h := (hb h a).1 hbh
      refine ⟨h, insertBefore before a t, by rw [if_pos hbh], List.mem_cons_of_mem _ hmem, fun x hx => ?_,
        fun x hx hxh => ?_⟩
      · rcases List.mem_cons.1 hx with rfl | hx
        · exact hfa.le
        · exact hle x hx
      · rcases List.mem_cons.1 hx with rfl | hx
        · exact hfa
        · exact hlt x hx hxh
    · have hfa : f h ≤ f a := not_lt.1 fun hh => hbh ((hb h a).2 hh)
      refine ⟨a, h :: t, by rw [if_neg hbh], List.mem_cons_self, fun x hx => ?_, fun x hx hxa => ?_⟩
      · rcases List.mem_cons.1 hx with rfl | hx
        · exact le_refl _
        · exact (hle x hx).trans hfa
      · rcases List.mem_cons.1 hx with rfl | hx
        · exact absurd hxa (lt_irrefl _)
        · exact absurd (ha x hx) (not_lt.2 hxa.le)

/-- The position a stable sort, the larger values first, puts at place zero. -/
theorem sortedFrom_first {n : ℕ} (f : Fin n → EReal) (before : Fin n → Fin n → Bool)
    (hb : ∀ a b, before a b = true ↔ f b < f a) (k : Fin n) (hk : k.val = 0) :
    (∀ x, f x ≤ f (sortedFrom before k)) ∧ ∀ x < sortedFrom before k, f x < f (sortedFrom before k) := by
  obtain ⟨h, t, hs, -, hle, hlt⟩ := stableSort_first f before hb (List.finRange n) (List.pairwise_lt_finRange n)
    (fun e => by
      have := congrArg List.length e
      rw [List.length_finRange] at this
      have hk' := k.isLt
      simp at this
      omega)
  have e : sortedFrom before k = h := by
    have h1 : (sortPositions n before)[0]? = some h := by
      show (stableSort before (List.finRange n))[0]? = some h
      rw [hs]
      rfl
    unfold sortedFrom
    rw [List.get_eq_getElem]
    have h2 : (sortPositions n before)[k.val]? = some h := by rw [hk]; exact h1
    exact (List.getElem_eq_iff _).2 h2
  rw [e]
  exact ⟨fun x => hle x (List.mem_finRange x), fun x hx => hlt x (List.mem_finRange x) hx⟩

/-- A conjunction of bits over a finite set that is one has every bit one. -/
theorem fold_andi {ι : Type} [DecidableEq ι] (p : ι → BitVec 1) (s : Finset ι) :
    Finset.fold IntOp.andi (1#1) p s = 1#1 → ∀ x ∈ s, p x = 1#1 := by
  induction s using Finset.induction_on with
  | empty => exact fun _ x hx => absurd hx (Finset.notMem_empty x)
  | insert a s ha ih =>
    rw [Finset.fold_insert ha]
    intro h
    have both : ∀ u v : BitVec 1, IntOp.andi u v = 1#1 → u = 1#1 ∧ v = 1#1 := by decide
    obtain ⟨h1, h2⟩ := both _ _ h
    intro x hx
    rcases Finset.mem_insert.1 hx with rfl | hx
    · exact h1
    · exact ih h2 x hx

/-- Over a whole type: where the fold by `and` is `1`, so is every bit. -/
theorem every_bit {ι : Type} [Fintype ι] [DecidableEq ι] (p : ι → BitVec 1)
    (h : Finset.fold IntOp.andi (1#1) p Finset.univ = 1#1) (x : ι) : p x = 1#1 :=
  fold_andi p _ h x (Finset.mem_univ x)

end Cert.Best

end
-- ==== Proof.Reference.lean ====
/- The reference's three results over the extended reals.

   The reference forms the negated distance (the root of the clipped squared distance) of every query and key and takes
   the largest of a query's row with its position: the first key that attains it. -/
module

public import proofs.«01_k».proof.Proof.Gen.ReferenceIdeal.Read
public import proofs.«01_k».proof.Proof.Numbers
public import proofs.«01_k».proof.Proof.Best
public import Idealize.ShloMosaic.Lib.Pointwise

@[expose] public section

set_option maxRecDepth 16384

noncomputable section

namespace Cert.ReferenceIdeal.Nearest

open Cert.ReferenceIdeal Cert.ReferenceIdeal.Gen Cert.ReferenceIdeal.Read Idealize.ShloMosaic Cert.Numbers Cert.Best

/-- The squared distance of query `j` and key `n` as the reference writes it: the query's squared norm, less twice the
    product, plus the key's squared norm. -/
def apart (q : Vec Ideal S2048x64 .f32) (k : Vec Ideal S65536x64 .f32) (j : Fin 2048) (n : Fin 65536) : EReal :=
  ∑ x : Fin 64, q (ix2 j x) * q (ix2 j x) - ((2 : ℝ) : EReal) * ∑ x : Fin 64, q (ix2 j x) * k (ix2 n x)
    + ∑ x : Fin 64, k (ix2 n x) * k (ix2 n x)

/-- The entry of the negated distances. -/
theorem entry (q : Vec Ideal S2048x64 .f32) (k : Vec Ideal S65536x64 .f32) (j : Fin 2048) (n : Fin 65536) :
    val_main_v16 (F := Ideal) q k (ix2 j n) = -Ideal.sqrt (max (bound : EReal) (apart q k j n)) := by
  pointwise [val_main_v16, val_main_v15, val_main_v14, val_main_call0_v1, val_main_call0_v0, val_main_v13,
    val_main_v12, val_main_v11, val_main_v10, val_main_v9, val_main_v8, val_main_v7, val_main_v6, val_main_v5,
    val_main_v4, val_main_v3, val_main_v2, val_main_v1, val_main_v0, val_main_cst, val_main_cst_0, val_main_cst_1,
    val_main_cst_2]
  rw [show id (constant (F := Ideal) S_ .f32 730643660#32) ix0 = (bound : EReal) from ofBits_bound, two]
  rfl

/-- Position `n` of the row through `(j, 0)`. -/
theorem along_row (j : Fin 2048) (hd : 1 < S2048x65536.rank) (n : Fin (S2048x65536.size ⟨1, hd⟩)) :
    Shape.Idx.along (s := S2048x65536) (ix2 j 0) ⟨1, hd⟩ n = ix2 (n1 := 65536) j n := by
  funext a
  match a with
  | ⟨0, _⟩ => rfl
  | ⟨1, _⟩ => rfl

/-- The row's largest entry and its first position. -/
theorem top (v : Vec Ideal S2048x65536 .f32) (j : Fin 2048) :
    ∃ g : Fin 65536, (∀ n, v (ix2 j n) ≤ v (ix2 j g)) ∧ (∀ n < g, v (ix2 j n) < v (ix2 j g))
      ∧ (Host.topK S2048x1 1 (FloatOps.cmpfTotal (F := Ideal) (φ := .f32) .gt) v sliceFits_S2048x65536_S2048x1).1
          (ix2 j 0) = v (ix2 j g)
      ∧ (Host.topK S2048x1 1 (FloatOps.cmpfTotal (F := Ideal) (φ := .f32) .gt) v sliceFits_S2048x65536_S2048x1).2
          (ix2 j 0) = BitVec.ofNat 32 g.val := by
  have hb : ∀ a b : Fin 65536,
      (FloatOps.cmpfTotal (F := Ideal) (φ := .f32) .gt (v (ix2 j a)) (v (ix2 j b)) == 1#1) = true
        ↔ v (ix2 j b) < v (ix2 j a) := fun a b => by
    show (BitVec.ofBool (decide (v (ix2 j b) < v (ix2 j a))) == 1#1) = true ↔ _
    by_cases h : v (ix2 j b) < v (ix2 j a) <;> simp [h]
  have key := sortedFrom_first (fun n : Fin 65536 => v (ix2 j n))
    (fun a b => FloatOps.cmpfTotal (F := Ideal) (φ := .f32) .gt (v (ix2 j a)) (v (ix2 j b)) == 1#1) hb
    ⟨0, by decide⟩ rfl
  refine ⟨_, key.1, key.2, ?_, ?_⟩
  · pointwise [Host.topK]
    unfold Host.sort2
    rw [dif_pos (show 1 < S2048x65536.rank by decide)]
    simp only [along_row]
    rfl
  · pointwise [Host.topK]
    unfold Host.sort2
    rw [dif_pos (show 1 < S2048x65536.rank by decide)]
    simp only [along_row]
    rfl

/-- The patch score and the index of query `j`. -/
theorem picked (q : Vec Ideal S2048x64 .f32) (k : Vec Ideal S65536x64 .f32) (j : Fin 2048) :
    ∃ g : Fin 65536, (∀ n, -Ideal.sqrt (max (bound : EReal) (apart q k j n))
          ≤ -Ideal.sqrt (max (bound : EReal) (apart q k j g)))
      ∧ (∀ n < g, -Ideal.sqrt (max (bound : EReal) (apart q k j n))
          < -Ideal.sqrt (max (bound : EReal) (apart q k j g)))
      ∧ val_main_v18 (F := Ideal) q k (ix1 j) = Ideal.sqrt (max (bound : EReal) (apart q k j g))
      ∧ val_main_v21 (F := Ideal) q k (ix1 j) = BitVec.ofNat 32 g.val := by
  obtain ⟨g, hle, hlt, hv, hi⟩ := top (val_main_v16 (F := Ideal) q k) j
  simp only [entry] at hle hlt hv
  refine ⟨g, hle, hlt, ?_, ?_⟩
  · rw [val_main_v18_apply, val_main_v17_apply]
    have e : idx_main_v17 (ix1 j) = ix2 j 0 := by
      funext a
      match a with
      | ⟨0, _⟩ => exact Fin.ext (Nat.div_one _)
      | ⟨1, _⟩ => rfl
    rw [e]
    show -(val_main_values (F := Ideal) q k (ix2 j 0)) = _
    unfold val_main_values
    rw [hv, neg_neg]
  · rw [val_main_v21_apply]
    have e : idx_main_v21 (ix1 j) = ix2 j 0 := by
      funext a
      match a with
      | ⟨0, _⟩ => exact Fin.ext (Nat.div_one _)
      | ⟨1, _⟩ => rfl
    rw [e]
    exact hi

/-- The image score `i`: the largest of its 256 patch scores. -/
theorem image (q : Vec Ideal S2048x64 .f32) (k : Vec Ideal S65536x64 .f32) (i : Fin 8) :
    val_main_v20 (F := Ideal) q k (ix1 i)
      = Finset.fold max ⊥ (fun x : Fin 256 => val_main_v18 (F := Ideal) q k (ix1 ⟨i.val * 256 + x.val, by omega⟩))
          Finset.univ := by
  pointwise [val_main_v20, val_main_v19, val_main_cst_3]
  rw [minus_infinity]

end Cert.ReferenceIdeal.Nearest

end
-- ==== Proof.Conditions.lean ====
/- What the precondition and the mask say, entry by entry.

   `finite`: every entry of the two arguments is a real number. `determined`, at a query: every key's squared distance
   is above the clipping bound or is the least. -/
module

public import proofs.«01_k».proof.Proof.Reference
public import proofs.«01_k».proof.On_determined
public import proofs.«01_k».proof.Pre_finite

@[expose] public section

set_option maxRecDepth 16384

noncomputable section

namespace Cert.Conditions

open Idealize.ShloMosaic Cert.Numbers Cert.Best Cert.ReferenceIdeal.Nearest

/-- The shape relations the precondition states. -/
theorem facts_finite : Cert.Pre_finite.Facts where
  bcast_S_S2048x64 := by decide
  reducesTo_S2048x64_S_d0_1 := by decide
  h_S_ := by decide
  bcast_S_S65536x64 := by decide
  reducesTo_S65536x64_S_d0_1 := by decide

/-- The shape relations the mask states. -/
theorem facts_determined : Cert.On_determined.Facts where
  reducesTo_S2048x64_S2048_d1 := by decide
  h_S_ := by decide
  bcast_S2048_S2048x1_0 := by decide
  reducesTo_S65536x64_S65536_d1 := by decide
  bcast_S65536_S1x65536_1 := by decide
  transposes_S65536x64_S64x65536_1_0 := by decide
  bcast_S_S2048x65536 := by decide
  bcast_S2048x1_S2048x65536_0_1 := by decide
  bcast_S1x65536_S2048x65536_0_1 := by decide
  reducesTo_S2048x65536_S2048_d1 := by decide
  bcast_S_S2048 := by decide
  bcast_S_S8 := by decide
  dot_S2048x64_S64x65536_S2048x65536_1_0_0_1_n_n_wf := by decide

/-- An extended real whose absolute value is below `+∞` is a real. -/
theorem real_of_abs (x : Ideal .f32)
    (h : BitVec.ofBool (decide (FloatOps.absf x < Ideal.ofBits .f32 2139095040#32)) = 1#1) :
    ∃ r : ℝ, x = (r : EReal) := by
  have one : ∀ p : Bool, BitVec.ofBool p = 1#1 → p = true := by decide
  have h1 : max (x : EReal) (-x) < Ideal.ofBits .f32 2139095040#32 := of_decide_eq_true (one _ h)
  rw [infinity] at h1
  obtain ⟨h2, h3⟩ := max_lt_iff.1 h1
  have hb : (x : EReal) ≠ ⊥ := fun hx => by
    rw [hx] at h3
    exact absurd h3 (by simp)
  exact ⟨EReal.toReal x, (EReal.coe_toReal h2.ne hb).symm⟩

/-- Under the precondition every entry is a real. -/
theorem finite_entries [Cert.Pre_finite.Facts] (q : FVec Ideal Cert.Pre_finite.S2048x64 .f32)
    (k : FVec Ideal Cert.Pre_finite.S65536x64 .f32) (h : Cert.Pre_finite.fn (F := Ideal) q k = fun _ => 1#1) :
    (∀ (j : Fin 2048) (x : Fin 64), ∃ r : ℝ, q (ix2 j x) = (r : EReal))
      ∧ ∀ (n : Fin 65536) (x : Fin 64), ∃ r : ℝ, k (ix2 n x) = (r : EReal) := by
  have h0 := congrFun h ix0
  pointwise [Cert.Pre_finite.fn] at h0
  have both : ∀ u v : BitVec 1, IntOp.andi u v = 1#1 → u = 1#1 ∧ v = 1#1 := by decide
  obtain ⟨hq, hk⟩ := both _ _ h0
  exact ⟨fun j x => real_of_abs (q (ix2 j x)) (every_bit _ hq (j, x)),
    fun n x => real_of_abs (k (ix2 n x)) (every_bit _ hk (n, x))⟩

/-- Where the mask is set every key's squared distance is above the bound or is the least. -/
theorem determined_entries [Cert.On_determined.Facts] (q : FVec Ideal Cert.On_determined.S2048x64 .f32)
    (k : FVec Ideal Cert.On_determined.S65536x64 .f32) (j : Fin 2048)
    (h : (Cert.On_determined.fn (F := Ideal) q k).2.2 (ix1 j) = 1#1) (n : Fin 65536) :
    (bound : EReal) < apart q k j n ∨ apart q k j n = Finset.fold min ⊤ (fun n => apart q k j n) Finset.univ := by
  pointwise [Cert.On_determined.fn, Cert.On_determined.fn_part1] at h
  have hn := every_bit _ h n
  rw [ofBits_bound, two, infinity] at hn
  have either : ∀ u v : Bool, IntOp.ori (BitVec.ofBool u) (BitVec.ofBool v) = 1#1 → u = true ∨ v = true := by decide
  rcases either _ _ hn with h' | h'
  · exact Or.inl (of_decide_eq_true h')
  · exact Or.inr (of_decide_eq_true h')

end Cert.Conditions

end
-- ==== Proof.Equation.lean ====
/- The two programs' results are equal.

   Over real arguments the kernel's and the reference's squared distances are one real number for each query and key.
   The kernel takes the first key of least squared distance and clips afterwards; the reference clips first and takes
   the first key of the least clipped distance. The clipped distances at the two keys are equal, since clipping keeps
   the order; the keys are one key where the clipping leaves the nearest key determined. -/
module

public import proofs.«01_k».proof.Proof.Results
public import proofs.«01_k».proof.Proof.Conditions

@[expose] public section

set_option maxRecDepth 16384

noncomputable section

namespace Cert.Equation

open Idealize.ShloMosaic Cert.Numbers Cert.Scan Cert.KernelIdeal.Gen Cert.KernelIdeal.Walk Cert.KernelIdeal.Sweep
open Cert.ReferenceIdeal.Nearest Cert.ReferenceIdeal.Read

/-- The distance of a squared distance: its square root after the clipping. -/
def clipped (d : ℝ) : ℝ := Real.sqrt (max bound d)

/-- Clipping and the square root keep the order. -/
theorem clipped_le {x y : ℝ} (h : x ≤ y) : clipped x ≤ clipped y :=
  Real.sqrt_le_sqrt (max_le_max_left bound h)

/-- Two equal clipped distances are those of equal clipped squares. -/
theorem clipped_inj {x y : ℝ} (h : clipped x = clipped y) : max bound x = max bound y :=
  (Real.sqrt_inj (bound_pos.le.trans (le_max_left _ _)) (bound_pos.le.trans (le_max_left _ _))).1 h

/-- The extended reals' clipping and square root, at a real. -/
theorem sqrt_clip (d : ℝ) : Ideal.sqrt (max (bound : EReal) (d : EReal)) = (clipped d : EReal) := by
  have e : max (bound : EReal) (d : EReal) = ((max bound d : ℝ) : EReal) := (EReal.coe_strictMono.monotone.map_max (a := bound) (b := d)).symm
  rw [e]
  have h : ¬ max bound d < 0 := not_lt.2 (bound_pos.le.trans (le_max_left _ _))
  show (if max bound d < 0 then (⊥ : EReal) else ((Real.sqrt (max bound d) : ℝ) : EReal)) = _
  rw [if_neg h]
  rfl

/-- The first least entry `g` of `d` and the first least entry `h` of the clipped `d` have one clipped value, and are
    one place where every entry is above the bound or is the least. -/
theorem agree {N : ℕ} (d : Fin N → ℝ) (g h : Fin N) (hg : ∀ n, d g ≤ d n) (hg' : ∀ n < g, d g < d n)
    (hh : ∀ n, clipped (d h) ≤ clipped (d n)) (hh' : ∀ n < h, clipped (d h) < clipped (d n)) :
    clipped (d g) = clipped (d h) ∧ ((∀ n, bound < d n ∨ d n = d g) → g = h) := by
  have e : clipped (d g) = clipped (d h) := le_antisymm (clipped_le (hg h)) (hh g)
  refine ⟨e, fun hm => ?_⟩
  have hd : d h = d g := by
    rcases hm h with hb | he
    · have hx := clipped_inj e
      rw [max_eq_right hb.le] at hx
      rcases max_choice bound (d g) with hc | hc
      · rw [hc] at hx
        exact absurd hx hb.ne
      · rw [hc] at hx
        exact hx.symm
    · exact he
  rcases lt_trichotomy g h with hlt | heq | hgt
  · exact absurd (hh' g hlt) (by rw [e]; exact lt_irrefl _)
  · exact heq
  · exact absurd (hg' h hgt) (by rw [hd]; exact lt_irrefl _)

/-- A finite sum of reals, taken in the extended reals. -/
theorem sum_coe {n : ℕ} (f : Fin n → ℝ) : ∑ x, ((f x : ℝ) : EReal) = ((∑ x, f x : ℝ) : EReal) := by
  induction n with
  | zero => simp
  | succ n ih => rw [Fin.sum_univ_succ, Fin.sum_univ_succ, ih, EReal.coe_add]

/-- The squared distance of two points. -/
def square (a b : Fin 64 → ℝ) : ℝ := ∑ x, a x * a x - 2 * ∑ x, a x * b x + ∑ x, b x * b x

/-- The kernel's order of the sum, over reals. -/
theorem square_kernel (a b : Fin 64 → ℝ) :
    ∑ x, (a x : EReal) * (a x : EReal) + ∑ x, (b x : EReal) * ((a x : EReal) * ((-2 : ℝ) : EReal))
      + ∑ x, (b x : EReal) * (b x : EReal) = (square a b : EReal) := by
  simp only [← EReal.coe_mul, sum_coe, ← EReal.coe_add]
  refine congrArg Real.toEReal ?_
  have e : ∑ x, b x * (a x * (-2)) = -(2 * ∑ x, a x * b x) := by
    rw [Finset.mul_sum, ← Finset.sum_neg_distrib]
    exact Finset.sum_congr rfl fun x _ => by ring
  rw [e]
  unfold square
  ring

/-- The reference's order of the sum, over reals. -/
theorem square_reference (a b : Fin 64 → ℝ) :
    ∑ x, (a x : EReal) * (a x : EReal) - ((2 : ℝ) : EReal) * ∑ x, (a x : EReal) * (b x : EReal)
      + ∑ x, (b x : EReal) * (b x : EReal) = (square a b : EReal) := by
  simp only [← EReal.coe_mul, sum_coe, ← EReal.coe_add, ← EReal.coe_sub]
  rfl

/-- One query's results: the kernel's patch score is the reference's, and so is its index where the clipping leaves
    the nearest key determined. -/
theorem query (q : Vec Ideal Cert.ReferenceIdeal.S2048x64 .f32) (k : Vec Ideal Cert.ReferenceIdeal.S65536x64 .f32)
    (hq : ∀ (j : Fin 2048) (x : Fin 64), ∃ r : ℝ, q (ix2 j x) = (r : EReal))
    (hk : ∀ (n : Fin 65536) (x : Fin 64), ∃ r : ℝ, k (ix2 n x) = (r : EReal)) (j : Fin 2048) :
    k0_pay1853 (F := Ideal) (leastBlocks q k 16) (ix1 j) = val_main_v18 (F := Ideal) q k (ix1 j)
      ∧ ((∀ n, (bound : EReal) < apart q k j n
            ∨ apart q k j n = Finset.fold min ⊤ (fun n => apart q k j n) Finset.univ) →
          k0_pay1855 (F := Ideal) (leastBlocks q k 16) (placeBlocks q k 16) (ix1 j)
            = val_main_v21 (F := Ideal) q k (ix1 j)) := by
  choose a ha using hq
  choose b hb using hk
  have hn : ∀ n : ℕ, near q k j n = (square (a j) (b ⟨n % 65536, Nat.mod_lt _ (by decide)⟩) : EReal) := fun n => by
    unfold near
    simp only [ha, hb]
    exact square_kernel _ _
  have hr : ∀ n : Fin 65536, apart q k j n = (square (a j) (b n) : EReal) := fun n => by
    unfold apart
    simp only [ha, hb]
    exact square_reference _ _
  have hf : ∀ n : Fin 65536, near q k j n.val = (square (a j) (b n) : EReal) := fun n => by
    rw [hn]
    have e : (⟨n.val % 65536, Nat.mod_lt _ (by decide)⟩ : Fin 65536) = n := Fin.ext (Nat.mod_eq_of_lt n.isLt)
    rw [e]
  obtain ⟨g, hg, hle, hlt, es, ei⟩ := Cert.KernelIdeal.Results.nearest q k j
    (fun n => by rw [hn]; exact EReal.coe_lt_top _)
  obtain ⟨h, rle, rlt, rs, ri⟩ := picked q k j
  have hg' : near q k j g = (square (a j) (b ⟨g, hg⟩) : EReal) := hf ⟨g, hg⟩
  simp only [hr, sqrt_clip, EReal.neg_le_neg_iff, EReal.neg_lt_neg_iff, EReal.coe_le_coe_iff,
    EReal.coe_lt_coe_iff] at rle rlt rs
  rw [hg', sqrt_clip] at es
  have dle : ∀ n : Fin 65536, square (a j) (b ⟨g, hg⟩) ≤ square (a j) (b n) := fun n => by
    have h1 := hle n.val n.isLt
    rw [hg', hf n] at h1
    exact EReal.coe_le_coe_iff.1 h1
  have dlt : ∀ n : Fin 65536, n < ⟨g, hg⟩ → square (a j) (b ⟨g, hg⟩) < square (a j) (b n) := fun n hn' => by
    have h1 := hlt n.val hn'
    rw [hg', hf n] at h1
    exact EReal.coe_lt_coe_iff.1 h1
  obtain ⟨e1, e2⟩ := agree (fun n => square (a j) (b n)) ⟨g, hg⟩ h dle dlt rle rlt
  refine ⟨?_, fun hm => ?_⟩
  · rw [es, rs]
    exact congrArg Real.toEReal e1
  · rw [ei, ri]
    refine congrArg (BitVec.ofNat 32) (congrArg Fin.val (e2 fun n => ?_))
    have hmin := fold_min_eq (fun n => apart q k j n) ⟨g, hg⟩ (square (a j) (b ⟨g, hg⟩) : EReal) (hr _)
      (fun n => by rw [hr]; exact EReal.coe_le_coe_iff.2 (dle n))
    rcases hm n with h1 | h1
    · rw [hr] at h1
      exact Or.inl (EReal.coe_lt_coe_iff.1 h1)
    · rw [hmin, hr] at h1
      exact Or.inr (EReal.coe_eq_coe_iff.1 h1)

/-- An image's score: the largest of its 256 patch scores in both programs. -/
theorem image_score (q : Vec Ideal Cert.ReferenceIdeal.S2048x64 .f32) (k : Vec Ideal Cert.ReferenceIdeal.S65536x64 .f32)
    (hq : ∀ (j : Fin 2048) (x : Fin 64), ∃ r : ℝ, q (ix2 j x) = (r : EReal))
    (hk : ∀ (n : Fin 65536) (x : Fin 64), ∃ r : ℝ, k (ix2 n x) = (r : EReal)) (i : Fin 8) :
    k0_pay1854 (F := Ideal) (leastBlocks q k 16) (ix1 i) = val_main_v20 (F := Ideal) q k (ix1 i) := by
  rw [Cert.KernelIdeal.Results.image_apply, image]
  exact congrArg (fun f => Finset.fold max ⊥ f Finset.univ) (funext fun x => (query q k hq hk _).1)

end Cert.Equation

end
-- ==== Proof.lean ====
/- The certificate: the three programs' frames, the kernel's ideal program, and the equality of the kernel's and the
   reference's results over the extended reals.

   Proof/Strips.lean, Point.lean and Sweep.lean read the kernel's run as one walk over the strips of keys; Numbers.lean,
   Scan.lean, Walk.lean and Results.lean read that walk's end as the first key of least squared distance; Best.lean and
   Reference.lean read the reference's; Conditions.lean and Equation.lean prove the two equal. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

attribute [local instance] Cert.Conditions.facts_finite Cert.Conditions.facts_determined

/-- The reference declares no semaphore and leaves its arguments unchanged. -/
theorem frame_reference : Cert.quiescent_ReferenceIdeal := fun m g _ =>
  (θ_run Cert.ReferenceIdeal.defs _ _).mono
    (fun r h => ⟨fun c => ⟨(h c).2.2.2.1, (h c).2.2.2.2⟩, sem_eq_zero_of_no_sems (by decide) r.2⟩)
    (Cert.ReferenceIdeal.Value.run (F := Ideal) m g)

/-- Over the extended reals and finite arguments the kernel's scores are the reference's, and its indices are the
    reference's at every query whose nearest key the clipping leaves determined. -/
theorem algebraic : Cert.algebraic_KernelIdeal_ReferenceIdeal_on_determined_pre_finite := by
  intro m g m' g' hpre hargs
  have real := fun c => Cert.Conditions.finite_entries _ _ (hpre c)
  refine ⟨fun c => Cert.KernelIdeal.Value.G2 m c, fun c => Cert.KernelIdeal.Value.G3 m c,
    fun c => Cert.KernelIdeal.Value.G4 m c, ?_, ?_⟩
  · refine (θ_run Cert.KernelIdeal.defs _ _).mono (fun r h c => ?_) (Cert.KernelIdeal.Value.run (F := Ideal) m g)
    obtain ⟨h0, h1, h2, h3, h4⟩ := h c
    exact ⟨fun i _ => congrFun h0 i, fun i _ => congrFun h1 i, fun i _ => congrFun h2 i, h3, h4⟩
  · refine (θ_run Cert.ReferenceIdeal.defs _ _).mono (fun r h c => ?_) (Cert.ReferenceIdeal.Value.run (F := Ideal) m' g')
    obtain ⟨h0, h1, h2, h3, h4⟩ := h c
    obtain ⟨a0, a1⟩ := hargs c
    obtain ⟨s0, s1, s2⟩ := Cert.KernelIdeal.Sweep.arrays m c
    obtain ⟨hq, hk⟩ := real c
    have t0 := h0.trans (Cert.ReferenceIdeal.Read.val_main_v18_eq _ _)
    have t1 := h1.trans (Cert.ReferenceIdeal.Read.val_main_v20_eq _ _)
    have t2 := h2.trans (Cert.ReferenceIdeal.Read.val_main_v21_eq _ _)
    rw [a0, a1] at t0 t1 t2
    refine ⟨fun i _ => ?_, fun i _ => ?_, fun i hi => ?_, h3, h4⟩
    · rw [t0]
      show _ = Cert.KernelIdeal.Value.G2 m c i
      rw [s0, eq_ix1 i]
      exact (Cert.Equation.query _ _ hq hk _).1.symm
    · rw [t1]
      show _ = Cert.KernelIdeal.Value.G3 m c i
      rw [s1, eq_ix1 i]
      exact (Cert.Equation.image_score _ _ hq hk _).symm
    · rw [t2]
      show _ = Cert.KernelIdeal.Value.G4 m c i
      rw [eq_ix1 i] at hi
      rw [s2, eq_ix1 i]
      exact ((Cert.Equation.query _ _ hq hk _).2 (Cert.Conditions.determined_entries _ _ _ hi)).symm

/-- Every claim of the certificate. -/
theorem claim : Cert.Claim := ⟨Cert.Kernel.Gen.facts, Cert.KernelIdeal.Gen.facts, Cert.ReferenceIdeal.Gen.facts,
  Cert.Conditions.facts_finite, Cert.Conditions.facts_determined,
  fun m g _ => Cert.Kernel.Gen.frame m g, fun m g _ => Cert.KernelIdeal.Gen.frame m g,
  fun m g _ => Cert.KernelIdeal.Gen.frame m g, frame_reference, fun m g _ => frame_reference m g trivial, trivial,
  algebraic⟩

end Cert.Proof

end
